-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 256]⟩ ⟨2, ![256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S256x128 .bf16) (main_arg1 : FVec F S128x8 .bf16) (main_arg2 : IVec S256x2 32) (main_arg3 : FVec F S2x128x256 .bf16) : IVec S_ 1 :=
  let main_v0 : FVec F S256x128 .bf16 := Host.absf main_arg0
  let main_cst : FVec F S_ .bf16 := constant S_ .bf16 0x7F80#16
  let main_v1 : FVec F S256x128 .bf16 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x8 .bf16 := Host.absf main_arg1
  let main_cst_0 : FVec F S_ .bf16 := constant S_ .bf16 0x7F80#16
  let main_v5 : FVec F S128x8 .bf16 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_c_2 : IVec S_ 32 := constantI S_ 32 0#32
  let main_v9 : IVec S256x2 32 := broadcastInDim S256x2 ![] bcast_S_S256x2 main_c_2
  let main_v10 : IVec S256x2 1 := cmpi .sge main_arg2 main_v9
  let main_c_3 : IVec S_ 32 := constantI S_ 32 8#32
  let main_v11 : IVec S256x2 32 := broadcastInDim S256x2 ![] bcast_S_S256x2 main_c_3
  let main_v12 : IVec S256x2 1 := cmpi .slt main_arg2 main_v11
  let main_v13 : IVec S256x2 1 := andi main_v10 main_v12
  let main_c_4 : IVec S_ 1 := constantI S_ 1 1#1
  let main_v14 : IVec S_ 1 := (fun x v => Host.reduce IntOp.andi x v reducesTo_S256x2_S_d0_1 h_S_) main_v13 main_c_4
  let main_v15 : IVec S_ 1 := andi main_v8 main_v14
  main_v15
-- ==== Pre_routed_ReferenceIdeal.lean ====
abbrev S256x128 : Shape := ⟨2, ![256, 128]⟩
abbrev S128x8 : Shape := ⟨2, ![128, 8]⟩
abbrev S256x2 : Shape := ⟨2, ![256, 2]⟩
abbrev S8x128x256 : Shape := ⟨3, ![8, 128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S256x128 .bf16) (main_arg1 : FVec F S128x8 .bf16) (main_arg2 : IVec S256x2 32) (main_arg3 : FVec F S8x128x256 .bf16) : IVec S_ 1 :=
  let main_v0 : FVec F S256x128 .bf16 := Host.absf main_arg0
  let main_cst : FVec F S_ .bf16 := constant S_ .bf16 0x7F80#16
  let main_v1 : FVec F S256x128 .bf16 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x8 .bf16 := Host.absf main_arg1
  let main_cst_0 : FVec F S_ .bf16 := constant S_ .bf16 0x7F80#16
  let main_v5 : FVec F S128x8 .bf16 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_c_2 : IVec S_ 32 := constantI S_ 32 0#32
  let main_v9 : IVec S256x2 32 := broadcastInDim S256x2 ![] bcast_S_S256x2 main_c_2
  let main_v10 : IVec S256x2 1 := cmpi .sge main_arg2 main_v9
  let main_c_3 : IVec S_ 32 := constantI S_ 32 8#32
  let main_v11 : IVec S256x2 32 := broadcastInDim S256x2 ![] bcast_S_S256x2 main_c_3
  let main_v12 : IVec S256x2 1 := cmpi .slt main_arg2 main_v11
  let main_v13 : IVec S256x2 1 := andi main_v10 main_v12
  let main_c_4 : IVec S_ 1 := constantI S_ 1 1#1
  let main_v14 : IVec S_ 1 := (fun x v => Host.reduce IntOp.andi x v reducesTo_S256x2_S_d0_1 h_S_) main_v13 main_c_4
  let main_v15 : IVec S_ 1 := andi main_v8 main_v14
  main_v15
-- ==== Kernel.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S64x256 : Shape := ⟨2, ![64, 256]⟩
abbrev S256x256 : Shape := ⟨2, ![256, 256]⟩
abbrev S3x64x256 : Shape := ⟨3, ![3, 64, 256]⟩
abbrev S3 : Shape := ⟨1, ![3]⟩
abbrev S_ : Shape := ⟨0, ![]⟩
abbrev S256x8 : Shape := ⟨2, ![256, 8]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩
abbrev S1 : Shape := ⟨1, ![1]⟩
abbrev S1x64x256 : Shape := ⟨3, ![1, 64, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x2, .i32⟩
  | .hbm, ⟨3, _⟩ => ⟨S2x128x256, .bf16⟩
  | .hbm, ⟨4, _⟩ => ⟨S64x256, .f32⟩
  | .local _ .vmem, ⟨0, _⟩ => ⟨S256x128, .bf16⟩
  | .local _ .vmem, ⟨1, _⟩ => ⟨S128x8, .bf16⟩
  | .local _ .vmem, ⟨2, _⟩ => ⟨S256x2, .i32⟩
  | .local _ .vmem, ⟨3, _⟩ => ⟨S2x128x256, .bf16⟩
  | .local _ .vmem, ⟨4, _⟩ => ⟨S64x256, .f32⟩
  | .local _ .vmem, ⟨5, _⟩ => ⟨S256x256, .bf16⟩
  | .local _ .vmem, ⟨6, _⟩ => ⟨S3x64x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_43 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v92 : BitVec 32 := Scalar.addi v2 c1_i32_43
  let c4_i32_44 : BitVec 32 := 4#32
  let v93 : BitVec 32 := Scalar.remsi v92 c4_i32_44
  let c64_i32 : BitVec 32 := 64#32
  let v94 : BitVec 32 := Scalar.muli v93 c64_i32
  let c0_i32_52 : BitVec 32 := 0#32
  ![v94.toNat, 0]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v92 : BitVec 32 := Scalar.addi v2 c1_i32_43
  let c4_i32_44 : BitVec 32 := 4#32
  let v93 : BitVec 32 := Scalar.remsi v92 c4_i32_44
  let c1_i32_48 : BitVec 32 := 1#32
  let v95 : BitVec 32 := Scalar.muli v93 c1_i32_48
  let v96 : BitVec 32 := Scalar.addi c0_i32_49 v95
  v96.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_53 : BitVec 32 := 2#32
  let v104 : BitVec 32 := Scalar.addi v2 c2_i32_53
  let c4_i32_54 : BitVec 32 := 4#32
  let v105 : BitVec 32 := Scalar.remsi v104 c4_i32_54
  let c1_i32_59 : BitVec 32 := 1#32
  let v107 : BitVec 32 := Scalar.muli v105 c1_i32_59
  let v108 : BitVec 32 := Scalar.addi c0_i32_60 v107
  v108.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_64 : BitVec 32 := 3#32
  let v116 : BitVec 32 := Scalar.addi v2 c3_i32_64
  let c4_i32_65 : BitVec 32 := 4#32
  let v117 : BitVec 32 := Scalar.remsi v116 c4_i32_65
  let c1_i32_70 : BitVec 32 := 1#32
  let v119 : BitVec 32 := Scalar.muli v117 c1_i32_70
  let v120 : BitVec 32 := Scalar.addi c0_i32_71 v119
  v120.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_75 : BitVec 32 := 64#32
  let v128 : BitVec 32 := Scalar.muli v2 c64_i32_75
  let v129 : Index := Scalar.indexCast v128
  let c0_76 : Index := 0#32
  ![v129.toNat, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x8 : Shape := ⟨2, ![128, 8]⟩
abbrev S256x2 : Shape := ⟨2, ![256, 2]⟩
abbrev S8x128x256 : Shape := ⟨3, ![8, 128, 256]⟩
abbrev S256x8 : Shape := ⟨2, ![256, 8]⟩
abbrev S_ : Shape := ⟨0, ![]⟩
abbrev S256 : Shape := ⟨1, ![256]⟩
abbrev S256x1 : Shape := ⟨2, ![256, 1]⟩
abbrev S256x128x256 : Shape := ⟨3, ![256, 128, 256]⟩
abbrev S256x256 : Shape := ⟨2, ![256, 256]⟩

abbrev nBuf : Space → Nat
  | .hbm => 90
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x2, .i32⟩
  | .hbm, ⟨3, _⟩ => ⟨S8x128x256, .bf16⟩
  | .hbm, ⟨4, _⟩ => ⟨S256x128, .f32⟩
  | .hbm, ⟨5, _⟩ => ⟨S128x8, .f32⟩
  | .hbm, ⟨6, _⟩ => ⟨S256x8, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S256x8, .f32⟩
  | .hbm, ⟨11, _⟩ => ⟨S256x8, .f32⟩
  | .hbm, ⟨12, _⟩ => ⟨S256x8, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x8, .f32⟩
  | .hbm, ⟨17, _⟩ => ⟨S256x8, .f32⟩
  | .hbm, ⟨18, _⟩ => ⟨S256x1, .i32⟩
  | .hbm, ⟨19, _⟩ => ⟨S256, .i32⟩
  | .hbm, ⟨20, _⟩ => ⟨S256x1, .i32⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S256x1, .i32⟩
  | .hbm, ⟨38, _⟩ => ⟨S256x1, .i32⟩
  | .hbm, ⟨39, _⟩ => ⟨S256x2, .i32⟩
  | .hbm, ⟨40, _⟩ => ⟨S256, .f32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S256x1, .i32⟩
  | .hbm, ⟨56, _⟩ => ⟨S256x1, .i32⟩
  | .hbm, ⟨57, _⟩ => ⟨S256x2, .i32⟩
  | .hbm, ⟨58, _⟩ => ⟨S256, .f32⟩
  | .hbm, ⟨59, _⟩ => ⟨S256, .f32⟩
  | .hbm, ⟨60, _⟩ => ⟨S8x128x256, .f32⟩
  | .hbm, ⟨61, _⟩ => ⟨S_, .i32⟩
  | .hbm, ⟨62, _⟩ => ⟨S256, .i32⟩
  | .hbm, ⟨63, _⟩ => ⟨S256, .i1⟩
  | .hbm, ⟨64, _⟩ => ⟨S_, .i32⟩
  | .hbm, ⟨65, _⟩ => ⟨S256, .i32⟩
  | .hbm, ⟨66, _⟩ => ⟨S256, .i32⟩
  | .hbm, ⟨67, _⟩ => ⟨S256, .i32⟩
  | .hbm, ⟨68, _⟩ => ⟨S256x1, .i32⟩
  | .hbm, ⟨69, _⟩ => ⟨S256x128x256, .f32⟩
  | .hbm, ⟨70, _⟩ => ⟨S256x256, .f32⟩
  | .hbm, ⟨71, _⟩ => ⟨S_, .i32⟩
  | .hbm, ⟨72, _⟩ => ⟨S256, .i32⟩
  | .hbm, ⟨73, _⟩ => ⟨S256, .i1⟩
  | .hbm, ⟨74, _⟩ => ⟨S_, .i32⟩
  | .hbm, ⟨75, _⟩ => ⟨S256, .i32⟩
  | .hbm, ⟨76, _⟩ => ⟨S256, .i32⟩
  | .hbm, ⟨77, _⟩ => ⟨S256, .i32⟩
  | .hbm, ⟨78, _⟩ => ⟨S256x1, .i32⟩
  | .hbm, ⟨79, _⟩ => ⟨S256x128x256, .f32⟩
  | .hbm, ⟨80, _⟩ => ⟨S256x256, .f32⟩
  | .hbm, ⟨81, _⟩ => ⟨S256, .f32⟩
  | .hbm, ⟨82, _⟩ => ⟨S256x1, .f32⟩
  | .hbm, ⟨83, _⟩ => ⟨S256x256, .f32⟩
  | .hbm, ⟨84, _⟩ => ⟨S256x256, .f32⟩
  | .hbm, ⟨85, _⟩ => ⟨S256, .f32⟩
  | .hbm, ⟨86, _⟩ => ⟨S256x1, .f32⟩
  | .hbm, ⟨87, _⟩ => ⟨S256x256, .f32⟩
  | .hbm, ⟨88, _⟩ => ⟨S256x256, .f32⟩
  | .hbm, ⟨89, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Protocol.lean ====
/-
# The exchange of partial sums: peers, views, cells, contents and schedule

Four devices each hold two of the eight experts. A device computes, for all 256 tokens, the contribution of its own
two experts, keeps 64 rows of it and sends the other three blocks of 64 rows to the other three devices. Every device
names the others by their distance around the mesh: `peer j c` is the device `j + 1` places after `c`.

The kernel opens with a handshake on the barrier semaphore: each device signals its three peers and waits for three
signals. A signal to `peer j c` hands over `c`'s landing slot `j`, which is the slot that peer will write. The transfer
into slot `s` goes to `peer (Fin.rev s) c`, and the transfer that lands in `c`'s own slot `s` comes from `peer s c`.

This module fixes the views and semaphores, what each buffer holds, and the schedule of duties on the seven
semaphore cells of a device (one barrier cell, three send cells, three receive cells).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost algebra: the pipeline's copy and the exchange's, whose duties are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory a run starts from: any contents, every counter at zero, any generator registers. -/
def s₀ : MemSt nD τ sig (Elt F) := ⟨m, fun _ => 0, ρ⟩

/-! ## Peers -/

set_option backward.proofsInPublic true in
/-- The device `j + 1` places after `c`. -/
def peer (j : Fin 3) (c : Dev nD) : Dev nD := ⟨(c.val + j.val + 1) % 4, Nat.mod_lt _ (by decide)⟩

/-- Going `j + 1` places on and then the complementary distance comes back to the start. -/
theorem peer_rev_peer (j : Fin 3) (c : Dev nD) : peer j.rev (peer j c) = c := by revert j c; decide
theorem peer_peer_rev (j : Fin 3) (c : Dev nD) : peer j (peer j.rev c) = c := by revert j c; decide

/-- A distance permutes the devices. -/
def shift (j : Fin 3) : Dev nD ≃ Dev nD := ⟨peer j, peer j.rev, peer_rev_peer j, peer_peer_rev j⟩

/-- The kernel's arithmetic on device numbers, for its three signals and its three transfers. -/
theorem dev1_eq (c : Dev nD) : (⟨k0_dev1 c, k0_dev1_lt c⟩ : Dev nD) = peer 0 c := Fin.ext (k0_dev1_eq c)
theorem dev2_eq (c : Dev nD) : (⟨k0_dev2 c, k0_dev2_lt c⟩ : Dev nD) = peer 1 c := Fin.ext (k0_dev2_eq c)
theorem dev3_eq (c : Dev nD) : (⟨k0_dev3 c, k0_dev3_lt c⟩ : Dev nD) = peer 2 c := Fin.ext (k0_dev3_eq c)
theorem dev4_eq (c : Dev nD) : (⟨k0_dev4 c, k0_dev4_lt c⟩ : Dev nD) = peer 0 c := Fin.ext (k0_dev4_eq c)
theorem dev5_eq (c : Dev nD) : (⟨k0_dev5 c, k0_dev5_lt c⟩ : Dev nD) = peer 1 c := Fin.ext (k0_dev5_eq c)
theorem dev6_eq (c : Dev nD) : (⟨k0_dev6 c, k0_dev6_lt c⟩ : Dev nD) = peer 2 c := Fin.ext (k0_dev6_eq c)

/-! ## Views -/

abbrev xM : Memref sig .tc .vmem S256x128 .bf16 := Memref.whole cc0_stg0_0
abbrev rwM : Memref sig .tc .vmem S128x8 .bf16 := Memref.whole cc0_stg1_0
abbrev ixM : Memref sig .tc .vmem S256x2 .i32 := Memref.whole cc0_stg2_0
abbrev ewM : Memref sig .tc .vmem S2x128x256 .bf16 := Memref.whole cc0_stg3_0
abbrev outM : Memref sig .tc .vmem S64x256 .f32 := Memref.whole cc0_stg4_0
/-- The partial sums of one device, and the three blocks it receives. -/
abbrev accM : Memref sig .tc .vmem S256x256 .bf16 := Memref.whole cc0_scratch0
abbrev landM : Memref sig .tc .vmem S3x64x256 .bf16 := Memref.whole cc0_scratch1

theorem rows_inb (d : Dev nD) : ∀ a, (![64 * d.val, 0] : Fin 2 → ℕ) a + S64x256.size a ≤ S256x256.size a := by
  revert d; decide
theorem slot_inb (s : Fin 3) : ∀ a, (![s.val, 0, 0] : Fin 3 → ℕ) a + S1x64x256.size a ≤ S3x64x256.size a := by
  revert s; decide

/-- The rectangle of the 64 rows of device `d`. -/
abbrev rowsR (d : Dev nD) : Rect S256x256 := Rect.unit (s := S256x256) ![64 * d.val, 0] S64x256.size (rows_inb d)
/-- The rectangle of slot `s`. -/
abbrev slotR (s : Fin 3) : Rect S3x64x256 := Rect.unit (s := S3x64x256) ![s.val, 0, 0] S1x64x256.size (slot_inb s)

/-- The rows of the partial sums that belong to device `d`, and landing slot `s`. -/
abbrev rowsOf (d : Dev nD) : Memref sig .tc .vmem S64x256 .bf16 := accM.slice (rowsR d) (fun _ => rfl)
abbrev slotOf (s : Fin 3) : Memref sig .tc .vmem S64x256 .bf16 :=
  (landM.slice (slotR s) (fun _ => rfl)).squeeze S64x256 squeezes_S1x64x256_S64x256

/-! ## Cells -/

/-- The barrier semaphore, which belongs to no launch; the semaphores of departures and of arrivals. -/
abbrev barS : Sem sig := (SemArray.scalar (sig.barrier 0 rfl) : Sems sig S_).sem
def sendS (s : Fin 3) : DmaSem sig := (⟨5 + s.val, Nat.lt_of_lt_of_le (Nat.add_lt_add_left s.isLt 5) (by decide)⟩ : Fin 11)
def recvS (s : Fin 3) : DmaSem sig := (⟨8 + s.val, Nat.lt_of_lt_of_le (Nat.add_lt_add_left s.isLt 8) (by decide)⟩ : Fin 11)

abbrev barCell (c : Dev nD) : GSem nD τ sig := ((c : Thread nD τ), .reg barS)
abbrev sendCell (c : Dev nD) (s : Fin 3) : GSem nD τ sig := ((c : Thread nD τ), .dma (sendS s))
abbrev recvCell (c : Dev nD) (s : Fin 3) : GSem nD τ sig := ((c : Thread nD τ), .dma (recvS s))

/-- The six semaphores of the launch, then all seven with the barrier semaphore first. -/
def osem : Fin 6 → SemLoc sig :=
  fun | 0 => .dma (sendS 0) | 1 => .dma (sendS 1) | 2 => .dma (sendS 2) | 3 => .dma (recvS 0) | 4 => .dma (recvS 1) | 5 => .dma (recvS 2)
def csem : Fin 7 → SemLoc sig :=
  fun | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)
/-- The places of a send cell and of a receive cell among the seven. -/
def sIx (s : Fin 3) : Fin 7 := ⟨s.val + 1, Nat.lt_of_lt_of_le (Nat.add_lt_add_right s.isLt 1) (by decide)⟩
def rIx (s : Fin 3) : Fin 7 := ⟨s.val + 4, Nat.add_lt_add_right s.isLt 4⟩
theorem kcell_s (c : Dev nD) (s : Fin 3) : kcell (c, sIx s) = sendCell c s := by fin_cases s <;> rfl
theorem kcell_r (c : Dev nD) (s : Fin 3) : kcell (c, rIx s) = recvCell c s := by fin_cases s <;> rfl

/-- What one transfer of 64 rows credits. -/
abbrev N : ℕ := (slotOf 0).view.dmaCredit
theorem N_pos : 0 < N := View.dmaCredit_pos _ (by decide)
theorem credit_slot (s : Fin 3) : (slotOf s).view.dmaCredit = N := rfl
theorem credit_rows (d : Dev nD) : (rowsOf d).view.dmaCredit = N := rfl

/-! ## Contents -/

/-- The blocks staged on device `c`. -/
def xAt (c : Dev nD) : (cc0_stg0_0 : Ref sig .tc).ty.Contents (Elt F) :=
  (win0_0.blk (0 : Fin 1)).view.read (Elt F) ((s₀ m ρ).mem ((c : Thread nD τ).loc main_arg0))
def rwAt (c : Dev nD) : (cc0_stg1_0 : Ref sig .tc).ty.Contents (Elt F) :=
  (win0_1.blk (0 : Fin 1)).view.read (Elt F) ((s₀ m ρ).mem ((c : Thread nD τ).loc main_arg1))
def ixAt (c : Dev nD) : (cc0_stg2_0 : Ref sig .tc).ty.Contents (Elt F) :=
  (win0_2.blk (0 : Fin 1)).view.read (Elt F) ((s₀ m ρ).mem ((c : Thread nD τ).loc main_arg2))
def ewAt (c : Dev nD) : (cc0_stg3_0 : Ref sig .tc).ty.Contents (Elt F) :=
  (win0_3.blk (0 : Fin 1)).view.read (Elt F) ((s₀ m ρ).mem ((c : Thread nD τ).loc main_arg3))

/-- The two columns of the routing and the two experts, as the kernel loads them. -/
abbrev ixR0 : Rect S256x2 := Rect.unit (s := S256x2) ![0, 0] S256x1.size inb_S256x2_S256x1_0_0
abbrev ixR1 : Rect S256x2 := Rect.unit (s := S256x2) ![0, 1] S256x1.size inb_S256x2_S256x1_0_1
abbrev ewR0 : Rect S2x128x256 := Rect.unit (s := S2x128x256) ![0, 0, 0] S1x128x256.size inb_S2x128x256_S1x128x256_0_0_0
abbrev ewR1 : Rect S2x128x256 := Rect.unit (s := S2x128x256) ![1, 0, 0] S1x128x256.size inb_S2x128x256_S1x128x256_1_0_0

/-- The device's number as the kernel computes it. -/
abbrev rank (d : Dev nD) : BitVec 32 := Scalar.remsi (Scalar.divsi (Dev.word d) 1#32) 4#32

/-- The partial sums of device `d` from the values it loads: its own two experts' contribution to every token. -/
def partOf (d : Dev nD) (x : Vec F S256x128 .bf16) (rw : Vec F S128x8 .bf16) (i0 i1 : Vec F S256x1 .i32)
    (w0 w1 : Vec F S1x128x256 .bf16) : FVec F S256x256 .bf16 :=
  let p := k0_pay3 x rw
  let io := iota .tc S256x8 32 [1] iota_S256x8_d1_w32
  k0_pay12 (k0_pay2 x) (k0_pay5 (F := F) i1) (k0_pay6 p io i0) (k0_pay7 p io i1) (k0_pay8 p io i0 i1)
    (k0_pay9 (rank d) (k0_pay2 x) p io i0 i1 w0) (Scalar.addi (Scalar.muli (rank d) 2#32) 1#32) (k0_pay10 (F := F) (rank d) i0) (k0_pay11 (F := F)) w1

/-- The partial sums buffer of device `c` once computed. -/
def part (c : Dev nD) : FVec F S256x256 .bf16 :=
  partOf c (xAt m ρ c) (rwAt m ρ c)
    (ixM.view.readAt (Elt F) ixR0.toLoadRect (ixAt m ρ c)) (ixM.view.readAt (Elt F) ixR1.toLoadRect (ixAt m ρ c))
    (ewM.view.readAt (Elt F) ewR0.toLoadRect (ewAt m ρ c)) (ewM.view.readAt (Elt F) ewR1.toLoadRect (ewAt m ρ c))

/-- A two-coordinate index of the partial sums. -/
def at2 (r : ℕ) (k : Fin 256) (h : r < 256) : S256x256.Idx := fun | 0 => ⟨r, h⟩ | 1 => k

/-- The landing buffer of device `c` once every block has arrived: slot `s` holds `c`'s rows of the partial sums of `peer s c`. -/
def landed (c : Dev nD) : FVec F S3x64x256 .bf16 := fun i =>
  part m ρ (peer (i 0) c) (at2 (64 * c.val + (i 1).val) (i 2) (by
    have h1 : (i 1).val < 64 := (i 1).isLt
    have h2 : c.val < 4 := c.isLt
    omega))

def rowPts (c d : Dev nD) (f : Buf (Elt F) ((rowsOf d).view.loc (c : Thread nD τ))) : sProp 𝕄 :=
  (rowsOf d).view.loc (c : Thread nD τ) ↦[(rowsOf d).view.set]{fullShare} f
def slotPts (c : Dev nD) (s : Fin 3) (f : Buf (Elt F) ((slotOf s).view.loc (c : Thread nD τ))) : sProp 𝕄 :=
  (slotOf s).view.loc (c : Thread nD τ) ↦[(slotOf s).view.set]{fullShare} f

omit [FloatOps F] in
instance rowPts_storable (c d : Dev nD) (f) : BI.Storable (upEmb : UEmb _ 𝕄) (rowPts (F := F) c d f) := by unfold rowPts; infer_instance
omit [FloatOps F] in
instance slotPts_storable (c : Dev nD) (s : Fin 3) (f) : BI.Storable (upEmb : UEmb _ 𝕄) (slotPts (F := F) c s f) := by unfold slotPts; infer_instance

/-! ## The blocks of the two scratch buffers -/

omit [FloatOps F] in
theorem rows_set (d : Dev nD) : (rowsOf d).view.set = (rowsR d).set := View.set_slice_whole _ _
omit [FloatOps F] in
theorem slot_set (s : Fin 3) : (slotOf s).view.set = (slotR s).set := (View.set_reshape _ _).trans (View.set_slice_whole _ _)

theorem mem_rows (d : Dev nD) (i : S256x256.Idx) : i ∈ (rowsR d).set ↔ (i 0).val / 64 = d.val := by
  rw [Rect.mem_set_unit]
  have h0 : (i 0).val < 256 := (i 0).isLt
  have h1 : (i 1).val < 256 := (i 1).isLt
  have hd : d.val < 4 := d.isLt
  constructor
  · intro h
    have := h 0
    have a1 : 64 * d.val ≤ (i 0).val := this.1
    have a2 : (i 0).val < 64 * d.val + 64 := this.2
    omega
  · intro h a
    fin_cases a
    · show 64 * d.val ≤ (i 0).val ∧ (i 0).val < 64 * d.val + 64
      omega
    · show 0 ≤ (i 1).val ∧ (i 1).val < 0 + 256
      omega

theorem mem_slot (s : Fin 3) (i : S3x64x256.Idx) : i ∈ (slotR s).set ↔ i 0 = s := by
  rw [Rect.mem_set_unit]
  have h1 : (i 1).val < 64 := (i 1).isLt
  have h2 : (i 2).val < 256 := (i 2).isLt
  constructor
  · intro h
    have := h 0
    have a1 : s.val ≤ (i 0).val := this.1
    have a2 : (i 0).val < s.val + 1 := this.2
    exact Fin.ext (by omega)
  · rintro rfl a
    fin_cases a
    · show (i 0).val ≤ (i 0).val ∧ (i 0).val < (i 0).val + 1
      omega
    · show 0 ≤ (i 1).val ∧ (i 1).val < 0 + 64
      omega
    · show 0 ≤ (i 2).val ∧ (i 2).val < 0 + 256
      omega

theorem rows_disjoint (d d' : Dev nD) (h : d ≠ d') : Disjoint (rowsR d).set (rowsR d').set :=
  Finset.disjoint_left.mpr fun i hi hi' => h (Fin.ext (((mem_rows d i).mp hi).symm.trans ((mem_rows d' i).mp hi')))
theorem rows_cover : Finset.univ.biUnion (fun d : Dev nD => (rowsR d).set) = Finset.univ := by
  refine Finset.eq_univ_of_forall fun i => Finset.mem_biUnion.mpr ⟨⟨(i 0).val / 64, ?_⟩, Finset.mem_univ _, (mem_rows _ i).mpr rfl⟩
  have h0 : (i 0).val < 256 := (i 0).isLt
  show (i 0).val / 64 < 4
  omega
theorem slot_disjoint (s s' : Fin 3) (h : s ≠ s') : Disjoint (slotR s).set (slotR s').set :=
  Finset.disjoint_left.mpr fun i hi hi' => h (((mem_slot s i).mp hi).symm.trans ((mem_slot s' i).mp hi'))
theorem slot_cover : Finset.univ.biUnion (fun s : Fin 3 => (slotR s).set) = Finset.univ :=
  Finset.eq_univ_of_forall fun i => Finset.mem_biUnion.mpr ⟨i 0, Finset.mem_univ _, (mem_slot _ i).mpr rfl⟩

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem rowPts_eq (c d : Dev nD) (f : Buf (Elt F) ((c : Thread nD τ).loc cc0_scratch0)) :
    rowPts c d f = (((c : Thread nD τ).loc cc0_scratch0) ↦[(rowsR d).set]{fullShare} f : sProp 𝕄) := by unfold rowPts; rw [rows_set]
omit [FloatOps F] in
theorem slotPts_eq (c : Dev nD) (s : Fin 3) (f : Buf (Elt F) ((c : Thread nD τ).loc cc0_scratch1)) :
    slotPts c s f = (((c : Thread nD τ).loc cc0_scratch1) ↦[(slotR s).set]{fullShare} f : sProp 𝕄) := by unfold slotPts; rw [slot_set]

/-- A device and its three peers are the four devices, each once. -/
theorem four_devices (c : Dev nD) : Finset.univ = [c, peer 0 c, peer 1 c, peer 2 c].toFinset ∧ [c, peer 0 c, peer 1 c, peer 2 c].Nodup := by
  revert c; decide

omit [FloatOps F] in
/-- The partial sums buffer held whole is its four blocks of rows: the device's own, and those of its three peers. -/
theorem acc_split (c : Dev nD) (f : Buf (Elt F) ((c : Thread nD τ).loc cc0_scratch0)) :
    (((c : Thread nD τ).loc cc0_scratch0) ↦{fullShare} f : sProp 𝕄)
      = iprop(rowPts c c f ∗ rowPts c (peer 0 c) f ∗ rowPts c (peer 1 c) f ∗ rowPts c (peer 2 c) f) := by
  rw [Ring.pointsTo_blocks (fun d : Dev nD => (rowsR d).set) rows_disjoint rows_cover f,
    bigSep_univ_eq_bigSepL [c, peer 0 c, peer 1 c, peer 2 c] (four_devices c).1 (four_devices c).2]
  simp only [bigSepL_cons_cons, bigSepL_singleton, rowPts_eq]
  rfl

omit [FloatOps F] in
/-- The landing buffer held whole is its three slots. -/
theorem land_split (c : Dev nD) (f : Buf (Elt F) ((c : Thread nD τ).loc cc0_scratch1)) :
    (((c : Thread nD τ).loc cc0_scratch1) ↦{fullShare} f : sProp 𝕄) = iprop(slotPts c 0 f ∗ slotPts c 1 f ∗ slotPts c 2 f) := by
  rw [Ring.pointsTo_blocks (fun s : Fin 3 => (slotR s).set) slot_disjoint slot_cover f, bigSep_fin3]
  simp only [slotPts_eq]

/-! ## What a transfer leaves -/

/-- An index of the row block, placed in the partial sums. -/
theorem rows_emb (d : Dev nD) (j : S64x256.Idx) : (rowsOf d).view.emb j = at2 (64 * d.val + (j 0).val) (j 1) (by
    have h1 : (j 0).val < 64 := (j 0).isLt
    have h2 : d.val < 4 := d.isLt
    omega) := by
  funext a
  refine Fin.ext ((ValueKit.view_emb_slice_whole_unit_val cc0_scratch0 ![64 * d.val, 0] S64x256.size (rows_inb d) j a).trans ?_)
  fin_cases a
  · rfl
  · show 0 + (j 1).val = (j 1).val
    omega

/-- An index of a slot, placed in the landing buffer. -/
theorem slot_emb (s : Fin 3) (j : S64x256.Idx) : (slotOf s).view.emb j = (fun | 0 => s | 1 => j 0 | 2 => j 1 : S3x64x256.Idx) := by
  have hj : Shape.reshapeEquiv (squeezes_S1x64x256_S64x256 : S1x64x256.Squeezes S64x256).numel_eq j = Fin.cons ⟨0, Nat.one_pos⟩ j :=
    Shape.reshapeEquiv_cons_one _ j
  have he : (slotOf s).view.emb j = (landM.slice (slotR s) (fun _ => rfl)).view.emb (Shape.reshapeEquiv (squeezes_S1x64x256_S64x256 : S1x64x256.Squeezes S64x256).numel_eq j) := rfl
  rw [he, hj]
  funext a
  refine Fin.ext ((ValueKit.view_emb_slice_whole_unit_val cc0_scratch1 ![s.val, 0, 0] S1x64x256.size (slot_inb s) _ a).trans ?_)
  fin_cases a
  · show s.val + 0 = s.val
    omega
  · show 0 + (j 0).val = (j 0).val
    omega
  · show 0 + (j 1).val = (j 1).val
    omega

/-- Writing the rows of the peer's block into its slot leaves there what the peer is said to receive. -/
theorem landed_eq (c : Dev nD) (s : Fin 3) (fd : Buf (Elt F) ((slotOf s).view.loc (peer s.rev c : Thread nD τ))) :
    ((slotOf s).view.loc (peer s.rev c : Thread nD τ) ↦[(slotOf s).view.set]{fullShare}
        ((slotOf s).view.write (Elt F) fd ((rowsOf (peer s.rev c)).view.read (Elt F) (part m ρ c)) Finset.univ) : sProp 𝕄)
      = slotPts (peer s.rev c) s (landed m ρ (peer s.rev c)) := by
  unfold slotPts
  refine pointsTo_congr fun i hi => ?_
  obtain ⟨j, rfl⟩ := View.exists_emb_of_mem_set _ hi
  rw [View.write_emb_of_mem _ _ (Finset.mem_univ j), View.read_apply, rows_emb, slot_emb]
  show part m ρ c _ = part m ρ (peer s (peer s.rev c)) _
  rw [peer_peer_rev]

/-! ## The schedule -/

/-- What the signal of duty `j` hands the device it is sent to: slot `j` of the device that sends it. -/
def barPay (d : Dev nD) (j : Fin 3) : sProp 𝕄 := iprop(∃ f, slotPts (peer j.rev d) j f)
/-- What the arrival into slot `s` hands its owner, and what the departure from slot `s`'s rows gives back. -/
def recvPay (c : Dev nD) (s : Fin 3) : sProp 𝕄 := slotPts c s (landed m ρ c)
def sendPay (c : Dev nD) (s : Fin 3) : sProp 𝕄 := rowPts c (peer s.rev c) (part m ρ c)

/-- The duties on a semaphore: three on the barrier, one on each semaphore of the exchange, none on the staging semaphores. -/
def dutySet : SemLoc sig → Finset (Fin 3)
  | .reg b => if b = barS then Finset.univ else ∅
  | .dma q => if 5 ≤ (q : Fin 11).val then {0} else ∅
/-- The amount of a duty. -/
def amt : SemLoc sig → ℕ
  | .reg _ => 1
  | .dma _ => N
/-- The payload of a duty. -/
def payAt (d : Dev nD) : SemLoc sig → Fin 3 → sProp 𝕄
  | .reg _, j => barPay d j
  | .dma q, _ => if 8 ≤ (q : Fin 11).val then recvPay m ρ d ⟨((q : Fin 11).val - 8) % 3, Nat.mod_lt _ (by decide)⟩
      else sendPay m ρ d ⟨((q : Fin 11).val - 5) % 3, Nat.mod_lt _ (by decide)⟩

instance payAt_storable (d : Dev nD) (sm : SemLoc sig) (j : Fin 3) : BI.Storable (upEmb : UEmb _ 𝕄) (payAt (F := F) m ρ d sm j) := by
  unfold payAt barPay recvPay sendPay
  split
  · infer_instance
  · split <;> infer_instance

/-- One round on every cell. -/
def rd : Rounds.Schedule (GSem nD τ sig) (Fin 3) 𝕄 where
  duties g r := if r = 0 ∧ g.1.2 = .tc then dutySet g.2 else ∅
  unitless _ := False
  amount g _ _ := amt g.2
  payload g _ d := payAt m ρ g.1.1 g.2 d
  amount_pos g _ _ _ := by
    unfold amt
    split
    · exact Nat.one_pos
    · exact N_pos

instance rd_payload_storable (g : GSem nD τ sig) (r : ℕ) (d : Fin 3) :
    BI.Storable (upEmb : UEmb _ 𝕄) ((rd (F := F) m ρ).payload g r d) := payAt_storable m ρ g.1.1 g.2 d

section Sched
variable (c : Dev nD) (s : Fin 3)

omit [FloatOps F] in
theorem dutySet_bar : dutySet (.reg barS) = Finset.univ := by unfold dutySet; exact if_pos rfl
omit [FloatOps F] in
theorem dutySet_send : dutySet (.dma (sendS s)) = {0} := by fin_cases s <;> rfl
omit [FloatOps F] in
theorem dutySet_recv : dutySet (.dma (recvS s)) = {0} := by fin_cases s <;> rfl

theorem duties_bar : (rd (F := F) m ρ).duties (barCell c) 0 = Finset.univ := by
  show (if 0 = 0 ∧ (c : Thread nD τ).2 = .tc then dutySet (.reg barS) else ∅) = _
  rw [if_pos ⟨rfl, rfl⟩, dutySet_bar]
theorem duties_send : (rd (F := F) m ρ).duties (sendCell c s) 0 = {0} := by
  show (if 0 = 0 ∧ (c : Thread nD τ).2 = .tc then dutySet (.dma (sendS s)) else ∅) = _
  rw [if_pos ⟨rfl, rfl⟩, dutySet_send]
theorem duties_recv : (rd (F := F) m ρ).duties (recvCell c s) 0 = {0} := by
  show (if 0 = 0 ∧ (c : Thread nD τ).2 = .tc then dutySet (.dma (recvS s)) else ∅) = _
  rw [if_pos ⟨rfl, rfl⟩, dutySet_recv]
/-- No cell has a duty after its first round. -/
theorem duties_later (g : GSem nD τ sig) : ∀ r, 1 ≤ r → (rd (F := F) m ρ).duties g r = ∅ :=
  fun r hr => if_neg fun h => by omega

theorem expect_bar : (rd (F := F) m ρ).expect (barCell c) 0 = 3 := by
  unfold Schedule.expect Schedule.amountOf
  rw [duties_bar]; rfl
theorem expect_send : (rd (F := F) m ρ).expect (sendCell c s) 0 = N := by
  unfold Schedule.expect Schedule.amountOf; rw [duties_send, Finset.sum_singleton]; rfl
theorem expect_recv : (rd (F := F) m ρ).expect (recvCell c s) 0 = N := by
  unfold Schedule.expect Schedule.amountOf; rw [duties_recv, Finset.sum_singleton]; rfl

theorem payload_bar (j : Fin 3) : (rd (F := F) m ρ).payload (barCell c) 0 j = barPay c j := rfl
theorem payload_send (d : Fin 3) : (rd (F := F) m ρ).payload (sendCell c s) 0 d = sendPay m ρ c s := by
  show payAt m ρ c (.dma (sendS s)) d = _
  fin_cases s <;> rfl
theorem payload_recv (d : Fin 3) : (rd (F := F) m ρ).payload (recvCell c s) 0 d = recvPay m ρ c s := by
  show payAt m ρ c (.dma (recvS s)) d = _
  fin_cases s <;> rfl

/-- What a wait for the whole of a round returns, on each kind of cell. -/
theorem rest_bar : bigSep ((rd (F := F) m ρ).duties (barCell c) 0 \ ∅) (fun d => (rd (F := F) m ρ).payload (barCell c) 0 d)
    = iprop(barPay c 0 ∗ barPay c 1 ∗ barPay c 2) := by
  rw [Finset.sdiff_empty, duties_bar, bigSep_fin3]; rfl
theorem rest_send : bigSep ((rd (F := F) m ρ).duties (sendCell c s) 0 \ ∅) (fun d => (rd (F := F) m ρ).payload (sendCell c s) 0 d) = sendPay m ρ c s := by
  rw [Finset.sdiff_empty, duties_send, bigSep_singleton, payload_send]
theorem rest_recv : bigSep ((rd (F := F) m ρ).duties (recvCell c s) 0 \ ∅) (fun d => (rd (F := F) m ρ).payload (recvCell c s) 0 d) = recvPay m ρ c s := by
  rw [Finset.sdiff_empty, duties_recv, bigSep_singleton, payload_recv]

end Sched

/-! ## What a device owes at launch, and the levels -/

/-- What device `c` owes for slot `s`: the credit of a transfer to the peer's receive cell. -/
def recvDue (c : Dev nD) (s : Fin 3) : CellTallies nD τ sig Unit := tallyAt (recvCell (peer s.rev c) s) () N
/-- What it owes the barrier cell of the peer `j + 1` places on: one unit. -/
def barDue (c : Dev nD) (j : Fin 3) : CellTallies nD τ sig Unit := tallyAt (barCell (peer j c)) () 1

/-- Still owed before the last transfer, the second, the first; and before the last signal, the second, the first. -/
def due1 (c : Dev nD) : CellTallies nD τ sig Unit := 0 + recvDue c 0
def due2 (c : Dev nD) : CellTallies nD τ sig Unit := due1 c + recvDue c 1
def due3 (c : Dev nD) : CellTallies nD τ sig Unit := due2 c + recvDue c 2
def due4 (c : Dev nD) : CellTallies nD τ sig Unit := due3 c + barDue c 2
def due5 (c : Dev nD) : CellTallies nD τ sig Unit := due4 c + barDue c 1
def O₀ (c : Dev nD) : CellTallies nD τ sig Unit := due5 c + barDue c 0

def L (g : GSem nD τ sig) : Finset Unit := if g.1.2 = .tc then {()} else ∅
/-- Receive cells above barrier cells, barrier cells above everything else. -/
def lvS : SemLoc sig → ℕ
  | .reg _ => 1
  | .dma q => if 8 ≤ (q : Fin 11).val then 2 else 0
def lv (g : GSem nD τ sig) (_ : Unit) : ℕ := lvS g.2

theorem lv_bar (c : Dev nD) : lv (barCell c) () = 1 := rfl
theorem lv_recv (c : Dev nD) (s : Fin 3) : lv (recvCell c s) () = 2 := by show lvS (.dma (recvS s)) = 2; fin_cases s <;> rfl

theorem L_of_ne (g : GSem nD τ sig) (h : g.1.2 ≠ .tc) : L g = ∅ := if_neg h
theorem L_tc (c : Dev nD) (sm : SemLoc sig) : L ((c : Thread nD τ), sm) = {()} := if_pos rfl

theorem due3_apply (c : Dev nD) (g : GSem nD τ sig) (u : Unit) :
    due3 c g u = recvDue c 0 g u + recvDue c 1 g u + recvDue c 2 g u := by
  unfold due3 due2 due1
  rw [zero_add]; rfl
theorem O₀_apply (c : Dev nD) (g : GSem nD τ sig) (u : Unit) :
    O₀ c g u = due3 c g u + barDue c 2 g u + barDue c 1 g u + barDue c 0 g u := rfl

theorem recvDue_pos {c : Dev nD} {s : Fin 3} {g : GSem nD τ sig} {u : Unit} (h : recvDue c s g u ≠ 0) : g = recvCell (peer s.rev c) s := by
  by_contra hn
  exact h (by unfold recvDue; rw [tallyAt_apply, if_neg fun h' => hn h'.1])
theorem barDue_pos {c : Dev nD} {j : Fin 3} {g : GSem nD τ sig} {u : Unit} (h : barDue c j g u ≠ 0) : g = barCell (peer j c) := by
  by_contra hn
  exact h (by unfold barDue; rw [tallyAt_apply, if_neg fun h' => hn h'.1])

/-- Past the handshake a device owes receive cells only. -/
theorem due3_pos {c : Dev nD} {g : GSem nD τ sig} {u : Unit} (h : 0 < due3 c g u) : ∃ d s, g = recvCell d s := by
  rw [due3_apply] at h
  by_cases h0 : recvDue c 0 g u = 0
  · by_cases h1 : recvDue c 1 g u = 0
    · exact ⟨_, _, recvDue_pos (c := c) (s := 2) (u := u) (by omega)⟩
    · exact ⟨_, _, recvDue_pos h1⟩
  · exact ⟨_, _, recvDue_pos h0⟩
/-- At launch it owes receive cells and barrier cells only. -/
theorem O₀_pos {c : Dev nD} {g : GSem nD τ sig} {u : Unit} (h : 0 < O₀ c g u) : (∃ d s, g = recvCell d s) ∨ ∃ d, g = barCell d := by
  rw [O₀_apply] at h
  by_cases h3 : 0 < due3 c g u
  · exact .inl (due3_pos h3)
  · by_cases h0 : barDue c 0 g u = 0
    · by_cases h1 : barDue c 1 g u = 0
      · exact .inr ⟨_, barDue_pos (c := c) (j := 2) (u := u) (by omega)⟩
      · exact .inr ⟨_, barDue_pos h1⟩
    · exact .inr ⟨_, barDue_pos h0⟩

/-- The staging waits may be met while anything is owed. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, s, rfl⟩ | ⟨d, rfl⟩ <;> exact Finset.mem_singleton_self _)
      (fun p hp => by rw [Finset.mem_singleton.mp hp]; exact le_of_eq hq)
      (fun g u hg => by
        rcases O₀_pos hg with ⟨d, s, rfl⟩ | ⟨d, rfl⟩
        · rw [show u = () from rfl, lv_recv]; decide
        · rw [show u = () from rfl, lv_bar]; decide)
  · rw [MayWait_zero]; iintro -; iempintro

/-- The barrier wait may be met while the three transfers are owed. -/
theorem mayWait_bar (c : Dev nD) : (levAts L lv : sProp 𝕄) ⊢ MayWait (c : Thread nD τ) (.reg barS) () (due3 c) :=
  MayOwe.of_cut (L := L) (lev := lv) 1 (fun p hp => by rw [Finset.mem_singleton.mp hp, L_tc]; exact Finset.mem_singleton_self _)
    (fun g u hg => by obtain ⟨d, s, rfl⟩ := due3_pos hg; exact Finset.mem_singleton_self _)
    (fun p hp => by rw [Finset.mem_singleton.mp hp]; exact le_of_eq (lv_bar c))
    (fun g u hg => by obtain ⟨d, s, rfl⟩ := due3_pos hg; rw [show u = () from rfl, lv_recv]; decide)

end Cert.Exchange

end
-- ==== Proof.Body.lean ====
/-
# The body of the kernel on one device

What a device starts from and ends with, one lemma for each kind of step of the exchange (signal a peer, wait at the
barrier, send a block of rows, wait for a departure, wait for an arrival), and the execution of the whole body by them.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device computes -/

/-- The rows of the partial sums the device keeps, as the kernel loads them. -/
abbrev ownR (c : Dev nD) : Rect S256x256 := Rect.unit (s := S256x256) (k0_off2 c) S64x256.size (k0_off2_inb c)

theorem ownR_eq (c : Dev nD) : ownR c = rowsR c := Rect.unit_congr (k0_off2_eq c) _ _

/-- The result of device `c`: its own rows plus the three blocks received. -/
def outAt (c : Dev nD) : (cc0_stg4_0 : Ref sig .tc).ty.Contents (Elt F) :=
  k0_pay1 (k0_pay13 (accM.view.readAt (Elt F) (ownR c).toLoadRect (part m ρ c)))
    (landM.view.readAt (Elt F) (slotR 0).toLoadRect (landed m ρ c))
    (landM.view.readAt (Elt F) (slotR 1).toLoadRect (landed m ρ c))
    (landM.view.readAt (Elt F) (slotR 2).toLoadRect (landed m ρ c))

/-! ## What a device holds -/

/-- The invariants of every cell of the exchange and the marks that each has reached its first round. -/
def records (K : Dev nD × Fin 7 → ℕ) : sProp 𝕄 :=
  iprop((bigSep Finset.univ fun ck : Dev nD × Fin 7 => cellInv ER (rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) : records m ρ K ⊢ cellInv ER (rd m ρ) (K ck) (kcell ck) := by
  have h : (bigSep Finset.univ fun ck : Dev nD × Fin 7 => (cellInv ER (rd m ρ) (K ck) (kcell ck) : sProp 𝕄)) ⊢ cellInv ER (rd m ρ) (K ck) (kcell ck) :=
    bigSep_elim (Finset.mem_univ ck)
  unfold records
  iintro ⟨H, -⟩
  iapply h
  iexact H
theorem reached_at (K : Dev nD × Fin 7 → ℕ) (ck : Dev nD × Fin 7) : records m ρ K ⊢ reached ER (kcell ck) 0 := by
  have h : (bigSep Finset.univ fun ck : Dev nD × Fin 7 => (reached ER (kcell ck) 0 : sProp 𝕄)) ⊢ reached ER (kcell ck) 0 :=
    bigSep_elim (Finset.mem_univ ck)
  unfold records
  iintro ⟨-, H⟩
  iapply h
  iexact H

theorem inv_bar (K : Dev nD × Fin 7 → ℕ) (c : Dev nD) : records m ρ K ⊢ cellInv ER (rd m ρ) (K (c, 0)) (barCell c) := inv_at m ρ K (c, 0)
theorem inv_send (K : Dev nD × Fin 7 → ℕ) (c : Dev nD) (s : Fin 3) : records m ρ K ⊢ cellInv ER (rd m ρ) (K (c, sIx s)) (sendCell c s) := by
  rw [← kcell_s]; exact inv_at m ρ K (c, sIx s)
theorem inv_recv (K : Dev nD × Fin 7 → ℕ) (c : Dev nD) (s : Fin 3) : records m ρ K ⊢ cellInv ER (rd m ρ) (K (c, rIx s)) (recvCell c s) := by
  rw [← kcell_r]; exact inv_at m ρ K (c, rIx s)
theorem reached_bar (K : Dev nD × Fin 7 → ℕ) (c : Dev nD) : records m ρ K ⊢ reached ER (barCell c) 0 := reached_at m ρ K (c, 0)
theorem reached_send (K : Dev nD × Fin 7 → ℕ) (c : Dev nD) (s : Fin 3) : records m ρ K ⊢ reached ER (sendCell c s) 0 := by
  rw [← kcell_s]; exact reached_at m ρ K (c, sIx s)
theorem reached_recv (K : Dev nD × Fin 7 → ℕ) (c : Dev nD) (s : Fin 3) : records m ρ K ⊢ reached ER (recvCell c s) 0 := by
  rw [← kcell_r]; exact reached_at m ρ K (c, rIx s)

/-- The positions of a device at its seven cells. -/
def poss (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0))
/-- The tokens of the duties a device pays: one at each peer's barrier, one at each peer's receive cell, its own send duties. -/
def payToks (c : Dev nD) : sProp 𝕄 :=
  iprop((dutyTok ER (barCell (peer 0 c)) 0 (0 : Fin 3) ∗ dutyTok ER (barCell (peer 1 c)) 0 (1 : Fin 3) ∗ dutyTok ER (barCell (peer 2 c)) 0 (2 : Fin 3))
    ∗ (dutyTok ER (recvCell (peer (Fin.rev 0) c) 0) 0 (0 : Fin 3) ∗ dutyTok ER (recvCell (peer (Fin.rev 1) c) 1) 0 (0 : Fin 3) ∗ dutyTok ER (recvCell (peer (Fin.rev 2) c) 2) 0 (0 : Fin 3))
    ∗ (dutyTok ER (sendCell c 0) 0 (0 : Fin 3) ∗ dutyTok ER (sendCell c 1) 0 (0 : Fin 3) ∗ dutyTok ER (sendCell c 2) 0 (0 : Fin 3)))

def ghost (K : Dev nD × Fin 7 → ℕ) (c : Dev nD) : sProp 𝕄 := iprop(records m ρ K ∗ poss c ∗ payToks c)

/-- The credit a device's own waits spend that others pay. -/
def creds (c : Dev nD) : sProp 𝕄 :=
  iprop(cred (tallyAt (barCell c) () 3)
    ∗ cred (tallyAt (recvCell c 0) () N) ∗ cred (tallyAt (recvCell c 1) () N) ∗ cred (tallyAt (recvCell c 2) () N))

def start (c : Dev nD) : sProp 𝕄 := iprop((∃ K, ghost m ρ K c) ∗ creds c ∗ levAts L lv)

/-- The two scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The counters at zero once a device's cells are closed: the six of the launch, then the barrier's. -/
def zeros (c : Dev nD) : sProp 𝕄 :=
  iprop((semVal (sendCell c 0) 0 ∗ semVal (sendCell c 1) 0 ∗ semVal (sendCell c 2) 0 ∗ semVal (recvCell c 0) 0 ∗ semVal (recvCell c 1) 0 ∗ semVal (recvCell c 2) 0)
    ∗ semVal (barCell c) 0)

def Φ₀ (c : Dev nD) : sProp 𝕄 := iprop(start m ρ c ∗ scratch c)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => rwAt m ρ c
    | ⟨2, _⟩ => ixAt m ρ c
    | ⟨3, _⟩ => ewAt m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

abbrev t₀ : Fin cfg0.N := t0_0

theorem fetch_all (w : Fin 5) (hw : w ≠ 4) (t : Fin cfg0.N) : (cfg0.win w).fetch t = true := by
  fin_cases w
  · exact fetch0_0 t
  · exact fetch0_1 t
  · exact fetch0_2 t
  · exact fetch0_3 t
  · exact absurd rfl hw

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The steps -/

section Steps

variable (K : Dev nD × Fin 7 → ℕ)

/-- Signalling the peer `j + 1` places on pays one of the units owed and hands over landing slot `j`. -/
theorem step_signal (c n : Dev nD) (j : Fin 3) (hn : n = peer j c) {k' : ℕ} (hk : 1 = k') (O : CellTallies nD τ sig Unit) (W : Waits sig Unit)
    {α : Type} {Q : α → sProp 𝕄} {k : PUnit → Prog (TpuEff nD τ sig (Elt F) Λ₀ .tc) α}
    (f : Buf (Elt F) ((slotOf j).view.loc (c : Thread nD τ))) :
    iprop(records m ρ K ∗ owes (c : Thread nD τ) (O + barDue c j) W ∗ dutyTok ER (barCell (peer j c)) 0 j ∗ slotPts c j f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  iintro ⟨#HR, HO, Ht, Hs⟩ Hk
  iapply (Rounds.wp_signal 𝒱₀ ER (rd m ρ) (c : Thread nD τ) none (dst := (peer j c : Thread nD τ)) (κ := K (peer j c, 0))
      (d := j) (by rw [duties_bar]; exact Finset.mem_univ _) rfl () O rfl) $$ [HO Ht Hs]
  · isplitr; · iapply (inv_bar m ρ K (peer j c)); iexact HR
    isplitl [HO]; · iexact HO
    isplitl [Ht]; · iexact Ht
    isplitl [Hs]
    · rw [payload_bar]; unfold barPay; rw [peer_rev_peer]; iexists f; iexact Hs
    · iapply (reached_bar m ρ K (peer j c)); iexact HR
  iexact Hk

/-- Waiting at the barrier for three units, the three transfers still owed, brings the slots this device writes. -/
theorem step_barrier (c : Dev nD) {k' : ℕ} (hk : 3 = k') (W : Waits sig Unit)
    {α : Type} {Q : α → sProp 𝕄} {k : PUnit → Prog (TpuEff nD τ sig (Elt F) Λ₀ .tc) α} :
    iprop(records m ρ K ∗ cred (tallyAt (barCell c) () 3) ∗ owes (c : Thread nD τ) (due3 c) W ∗ levAts L lv ∗ atPos ER (barCell c) 0 ∅ 0)
      ⊢ iprop(((owes (c : Thread nD τ) (due3 c) (insert (SemLoc.reg barS, ()) W) ∗ semVal (barCell c) 0 ∗ barPay c 0 ∗ barPay c 1 ∗ barPay c 2)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  iintro ⟨#HR, Hc, HO, #Hlev, Hat⟩ Hk
  iapply (Rounds.wp_wait_rest_token 𝒱₀ ER (rd m ρ) (c : Thread nD τ) none (κ := K (c, 0))
      (wpE_semWait_eq 𝒱₀ (c : Thread nD τ) none Set.univ) (Set.mem_univ _) () (O := due3 c) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar (F := F) c); iexact Hlev
    iexact Hat
  iintro ⟨HO, Hat, -, Hpay⟩
  imod (Rounds.cell_close ER (rd m ρ) (Set.mem_univ (K (c, 0))) (fun h => h) (R := 0 + 1) (duties_later m ρ (barCell c))) $$ [Hat] with Hz
  · isplitr; · iapply (inv_bar m ρ K c); iexact HR
    iexact Hat
  ihave Hp := (Entails.of_eq (rest_bar m ρ c)) $$ Hpay
  iapply Hk
  isplitl [HO]; · iexact HO
  isplitl [Hz]; · iexact Hz
  iexact Hp

/-- Sending the rows of the peer that slot `s` goes to. -/
theorem step_send (c n : Dev nD) (s : Fin 3) (hn : n = peer s.rev c) {off : Fin 2 → ℕ} (hoff : off = ![64 * (peer s.rev c).val, 0])
    (inb : ∀ a, off a + S64x256.size a ≤ S256x256.size a)
    {sS sR : DmaSem sig} (hS : sS = sendS s) (hR : sR = recvS s)
    {dst : Memref sig .tc .vmem S64x256 .bf16} (hd : dst = slotOf s)
    {hsc : (dst : Memref sig (Dev.tc n : Thread nD τ).2.kind .vmem S64x256 .bf16).view.ref.isScScratch = false}
    {hsrc : ((accM.slice (Rect.unit (s := S256x256) off S64x256.size inb) (fun _ => rfl) : Memref sig .tc .vmem S64x256 .bf16)).view.WordExact}
    {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} (O : CellTallies nD τ sig Unit) (W : Waits sig Unit) :
    iprop(records m ρ K ∗ rowPts c (peer s.rev c) (part m ρ c) ∗ (∃ fd, slotPts (peer s.rev c) s fd)
        ∗ owes (c : Thread nD τ) (O + recvDue c s) W
        ∗ dutyTok ER (sendCell c s) 0 (0 : Fin 3) ∗ dutyTok ER (recvCell (peer s.rev c) s) 0 (0 : Fin 3))
      ⊢ iprop(((cred (tallyAt (sendCell c s) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM.slice (Rect.unit (s := S256x256) off S64x256.size inb) (fun _ => rfl))
                (.remote (Dev.tc n : Thread nD τ) dst (.dma sS) hsc) (.dma sR) hsrc hdst hsem) k) Q) := by
  subst hn hoff hS hR hd
  iintro ⟨#HR, Hrow, ⟨%fd, Hslot⟩, HO, HtS, HtR⟩ Hk
  unfold rowPts slotPts
  iapply (Rounds.wp_send_pointsTo 𝒱₀ ER (rd m ρ) (c : Thread nD τ) none (κ₁ := K (c, sIx s)) (κ₂ := K (peer s.rev c, rIx s))
    (r₁ := 0) (r₂ := 0) (d₁ := (0 : Fin 3)) (d₂ := (0 : Fin 3)) (fs := part m ρ c) (fd := fd)
    (by rw [duties_send]; exact Finset.mem_singleton_self _) (by rw [duties_recv]; exact Finset.mem_singleton_self _)
    () () N rfl rfl rfl O rfl (W := W)
    (by rw [payload_send]; exact BI.Entails.refl _)
    (by rw [payload_recv]; exact Entails.of_eq (landed_eq m ρ c s fd))) $$ [Hrow Hslot HO HtS HtR]
  · isplitr; · iapply (inv_send m ρ K c s); iexact HR
    isplitr; · iapply (inv_recv m ρ K (peer s.rev c) s); iexact HR
    isplitl [Hrow]; · iexact Hrow
    isplitl [Hslot]; · iexact Hslot
    isplitl [HO]; · iexact HO
    isplitl [HtS]; · iexact HtS
    isplitr; · iapply (reached_send m ρ K c s); iexact HR
    isplitl [HtR]; · iexact HtR
    iapply (reached_recv m ρ K (peer s.rev c) s); iexact HR
  iexact Hk

/-- Waiting for the departure from slot `s`'s rows brings those rows back, and closes the cell. -/
theorem step_departed (c : Dev nD) (s : Fin 3) {q : DmaSem sig} (hq : q = sendS s) {off : Fin 2 → ℕ} {inb : ∀ a, off a + S64x256.size a ≤ S256x256.size a}
    {src : Memref sig .tc .vmem S64x256 .bf16} {hsrc : src.view.WordExact}
    {hdst : ((accM.slice (Rect.unit (s := S256x256) off S64x256.size inb) (fun _ => rfl) : Memref sig .tc .vmem S64x256 .bf16)).view.WordExact} (W : Waits sig Unit)
    {α : Type} {Q : α → sProp 𝕄} {k : PUnit → Prog (TpuEff nD τ sig (Elt F) Λ₀ .tc) α} :
    iprop(records m ρ K ∗ cred (tallyAt (sendCell c s) () N) ∗ owes (c : Thread nD τ) 0 W ∗ atPos ER (sendCell c s) 0 ∅ 0)
      ⊢ iprop(((owes (c : Thread nD τ) 0 (insert (SemLoc.dma (sendS s), ()) W) ∗ semVal (sendCell c s) 0 ∗ rowPts c (peer s.rev c) (part m ρ c))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src (accM.slice (Rect.unit (s := S256x256) off S64x256.size inb) (fun _ => rfl)) hsrc hdst) k) Q) := by
  subst hq
  have hw : ∀ P : PUnit → sProp 𝕄, wpE (defs₀ (F := F)) 𝒱₀ (c : Thread nD τ) none Set.univ (.waitDma2 (sendS s) src (accM.slice (Rect.unit (s := S256x256) off S64x256.size inb) (fun _ => rfl) : Memref sig .tc .vmem S64x256 .bf16) hsrc hdst) P
      = waitSpec (c : Thread nD τ) Set.univ (.dma (sendS s)) N P := fun P => wpE_waitDma2_eq 𝒱₀ (c : Thread nD τ) none Set.univ P
  iintro ⟨#HR, Hc, HO, Hat⟩ Hk
  iapply (Rounds.wp_wait_rest_token 𝒱₀ ER (rd m ρ) (c : Thread nD τ) none (κ := K (c, sIx s)) hw (Set.mem_univ _) () (O := 0) (W := W) (R := 0) (m := 0) (T := ∅)
      ((Nat.zero_add N).trans (expect_send m ρ c s).symm)) $$ [Hc HO Hat]
  · isplitr; · iapply (inv_send m ρ K c s); iexact HR
    isplitl [Hc]; · iexact Hc
    isplitl [HO]; · iexact HO
    isplitr; · rw [MayWait_zero]; iempintro
    iexact Hat
  iintro ⟨HO, Hat, -, Hpay⟩
  imod (Rounds.cell_close ER (rd m ρ) (Set.mem_univ (K (c, sIx s))) (fun h => h) (R := 0 + 1) (duties_later m ρ (sendCell c s))) $$ [Hat] with Hz
  · isplitr; · iapply (inv_send m ρ K c s); iexact HR
    iexact Hat
  ihave Hp := (Entails.of_eq (rest_send m ρ c s)) $$ Hpay
  iapply Hk
  isplitl [HO]; · iexact HO
  isplitl [Hz]; · iexact Hz
  unfold sendPay
  iexact Hp

/-- Waiting for the arrival into slot `s` brings the slot, holding the block of the device it comes from, and closes the cell. -/
theorem step_arrived (c : Dev nD) (s : Fin 3) {q : DmaSem sig} (hq : q = recvS s) {src : Memref sig .tc .vmem S64x256 .bf16} {dst : Memref sig .tc .vmem S64x256 .bf16} (hd : dst = slotOf s)
    {hsrc : src.view.WordExact} {hdst : dst.view.WordExact} (W : Waits sig Unit)
    {α : Type} {Q : α → sProp 𝕄} {k : PUnit → Prog (TpuEff nD τ sig (Elt F) Λ₀ .tc) α} :
    iprop(records m ρ K ∗ cred (tallyAt (recvCell c s) () N) ∗ owes (c : Thread nD τ) 0 W ∗ atPos ER (recvCell c s) 0 ∅ 0)
      ⊢ iprop(((owes (c : Thread nD τ) 0 (insert (SemLoc.dma (recvS s), ()) W) ∗ semVal (recvCell c s) 0 ∗ slotPts c s (landed m ρ c))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hd
  have hw : ∀ P : PUnit → sProp 𝕄, wpE (defs₀ (F := F)) 𝒱₀ (c : Thread nD τ) none Set.univ (.waitDma2 (recvS s) src (slotOf s) hsrc hdst) P
      = waitSpec (c : Thread nD τ) Set.univ (.dma (recvS s)) N P := fun P => wpE_waitDma2_eq 𝒱₀ (c : Thread nD τ) none Set.univ P
  iintro ⟨#HR, Hc, HO, Hat⟩ Hk
  iapply (Rounds.wp_wait_rest_token 𝒱₀ ER (rd m ρ) (c : Thread nD τ) none (κ := K (c, rIx s)) hw (Set.mem_univ _) () (O := 0) (W := W) (R := 0) (m := 0) (T := ∅)
      ((Nat.zero_add N).trans (expect_recv m ρ c s).symm)) $$ [Hc HO Hat]
  · isplitr; · iapply (inv_recv m ρ K c s); iexact HR
    isplitl [Hc]; · iexact Hc
    isplitl [HO]; · iexact HO
    isplitr; · rw [MayWait_zero]; iempintro
    iexact Hat
  iintro ⟨HO, Hat, -, Hpay⟩
  imod (Rounds.cell_close ER (rd m ρ) (Set.mem_univ (K (c, rIx s))) (fun h => h) (R := 0 + 1) (duties_later m ρ (recvCell c s))) $$ [Hat] with Hz
  · isplitr; · iapply (inv_recv m ρ K c s); iexact HR
    iexact Hat
  ihave Hp := (Entails.of_eq (rest_recv m ρ c s)) $$ Hpay
  iapply Hk
  isplitl [HO]; · iexact HO
  isplitl [Hz]; · iexact Hz
  unfold recvPay
  iexact Hp

/-! ### What the loads and stores read and leave -/

omit [FloatOps F] in
theorem zero2 : (![0, 0] : Fin 2 → Nat) = fun _ => 0 := funext fun a => by fin_cases a <;> rfl
omit [FloatOps F] in
theorem read_x (f : (cc0_stg0_0 : Ref sig .tc).ty.Contents (Elt F)) :
    xM.view.readAt (Elt F) (Rect.unit (s := S256x128) ![0, 0] S256x128.size inb_S256x128_S256x128_0_0).toLoadRect f = f :=
  Memref.readAt_unit_zero (Elt F) cc0_stg0_0 zero2 _ f
omit [FloatOps F] in
theorem read_rw (f : (cc0_stg1_0 : Ref sig .tc).ty.Contents (Elt F)) :
    rwM.view.readAt (Elt F) (Rect.unit (s := S128x8) ![0, 0] S128x8.size inb_S128x8_S128x8_0_0).toLoadRect f = f :=
  Memref.readAt_unit_zero (Elt F) cc0_stg1_0 zero2 _ f
omit [FloatOps F] in
theorem write_acc (f w : (cc0_scratch0 : Ref sig .tc).ty.Contents (Elt F)) :
    (accM.access (Rect.unit (s := S256x256) ![0, 0] S256x256.size inb_S256x256_S256x256_0_0) : View sig .tc _ _ _).write (Elt F) f w Finset.univ = w :=
  Memref.write_access_unit_zero_univ (Elt F) cc0_scratch0 zero2 _ f w
omit [FloatOps F] in
theorem write_out (f w : (cc0_stg4_0 : Ref sig .tc).ty.Contents (Elt F)) :
    (outM.access (Rect.unit (s := S64x256) ![0, 0] S64x256.size inb_S64x256_S64x256_0_0) : View sig .tc _ _ _).write (Elt F) f w Finset.univ = w :=
  Memref.write_access_unit_zero_univ (Elt F) cc0_stg4_0 zero2 _ f w

/-- Storing the partial sums leaves the buffer at them; -/
theorem step_store_acc (c : Dev nD) {w : FVec F S256x256 .bf16} (hw : w = part m ρ c)
    {hx} {hm} (f : Buf (Elt F) ((c : Thread nD τ).loc cc0_scratch0))
    {α : Type} {Q : α → sProp 𝕄} {k : PUnit → Prog (TpuEff nD τ sig (Elt F) Λ₀ .tc) α} :
    (((c : Thread nD τ).loc cc0_scratch0) ↦{fullShare} f)
      ⊢ iprop(((((c : Thread nD τ).loc cc0_scratch0) ↦{fullShare} (part m ρ c : Buf (Elt F) ((c : Thread nD τ).loc cc0_scratch0)))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.store accM (Rect.unit (s := S256x256) ![0, 0] S256x256.size inb_S256x256_S256x256_0_0) w Finset.univ hx hm) k) Q) := by
  subst hw
  iintro H Hk
  iapply (wp_store 𝒱₀ (c : Thread nD τ) none Set.univ (m := accM) (r := Rect.unit (s := S256x256) ![0, 0] S256x256.size inb_S256x256_S256x256_0_0)
    (Mk := Finset.univ) (Finset.subset_univ _)) $$ H
  rw [write_acc]
  iexact Hk
/-- and storing the result leaves the staging buffer at it. -/
theorem step_store_out (c : Dev nD) {w : FVec F S64x256 .f32} (hw : w = outAt m ρ c)
    {hx} {hm} (f : Buf (Elt F) ((c : Thread nD τ).loc cc0_stg4_0))
    {α : Type} {Q : α → sProp 𝕄} {k : PUnit → Prog (TpuEff nD τ sig (Elt F) Λ₀ .tc) α} :
    (((c : Thread nD τ).loc cc0_stg4_0) ↦{fullShare} f)
      ⊢ iprop(((((c : Thread nD τ).loc cc0_stg4_0) ↦{fullShare} (outAt m ρ c : Buf (Elt F) ((c : Thread nD τ).loc cc0_stg4_0)))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.store outM (Rect.unit (s := S64x256) ![0, 0] S64x256.size inb_S64x256_S64x256_0_0) w Finset.univ hx hm) k) Q) := by
  subst hw
  iintro H Hk
  iapply (wp_store 𝒱₀ (c : Thread nD τ) none Set.univ (m := outM) (r := Rect.unit (s := S64x256) ![0, 0] S64x256.size inb_S64x256_S64x256_0_0)
    (Mk := Finset.univ) (Finset.subset_univ _)) $$ H
  rw [write_out]
  iexact Hk

/-- The device's own rows lie in the block of rows it keeps. -/
theorem own_subset (c : Dev nD) : accM.view.setOn (ownR c).toLoadRect.set ⊆ (rowsOf c).view.set := by
  rw [ownR_eq]
  exact (View.set_slice _ _).symm.subset

/-- The offsets of the block sent `r + 1` places on. -/
theorem off_eq (c : Dev nD) (r : Fin 3) : k0_off1 c (BitVec.ofNat 32 (1 + r.val)) = ![64 * (peer r c).val, 0] := k0_off1_eq c r

end Steps

/-! ## The body -/

section Body

variable (K : Dev nD × Fin 7 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The five staging buffers before the body, and after it. -/
def stagedPre (c : Dev nD) : sProp 𝕄 :=
  iprop((∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def stagedPost (c : Dev nD) : sProp 𝕄 :=
  iprop(stg c cc0_stg0_0 (xAt m ρ c) ∗ stg c cc0_stg1_0 (rwAt m ρ c) ∗ stg c cc0_stg2_0 (ixAt m ρ c) ∗ stg c cc0_stg3_0 (ewAt m ρ c)
    ∗ stg c cc0_stg4_0 (outAt m ρ c))

def bodyPre (c : Dev nD) : sProp 𝕄 :=
  iprop((ghost m ρ K c ∗ creds c ∗ levAts L lv ∗ scratch c) ∗ (dats m ρ 0 c).owesAt () t₀.castSucc ∗ stagedPre m ρ c)
def bodyPost (c : Dev nD) : sProp 𝕄 :=
  iprop(Φ₁ c ∗ (dats m ρ 0 c).owesAt () t₀.succ ∗ stagedPost m ρ c)

/-- The kernel body on device `c`, its operands the staging buffers and the scratch. -/
abbrev bodyProg : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _)
    (Memref.whole cc0_scratch0) (Memref.isWhole_whole _) (Memref.whole cc0_scratch1) (Memref.isWhole_whole _) cc0_scratch2 cc0_scratch3

set_option maxHeartbeats 4000000 in
/-- The body executed from `bodyPre` to `bodyPost`, one step for each effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ (bodyProg (F := F)) Kt := by
  unfold bodyProg
  simp only [cc0_body_eq_skeleton, cc0_body_skel, k0_part1_eq_skeleton, k0_part1_skel, k0_part2_eq_skeleton, k0_part2_skel,
    k0_part3_eq_skeleton, k0_part3_skel, k0_part4_eq_skeleton, k0_part4_skel, k0_part5_eq_skeleton, k0_part5_skel]
  simp only [semSignalWord, semWaitWord, Prog.lift, Prog.bind_op, Prog.bind_ret, Prog.pure_eq_ret, wp_deviceId]
  unfold bodyPre ghost poss payToks creds scratch stagedPre
  iintro ⟨⟨⟨⟨#HR, ⟨HaB, ⟨HaS0, HaS1, HaS2⟩, HaR0, HaR1, HaR2⟩, ⟨HtB0, HtB1, HtB2⟩, ⟨HtR0, HtR1, HtR2⟩, HtS0, HtS1, HtS2⟩,
    ⟨HcB, HcR0, HcR1, HcR2⟩, #Hlev, ⟨%fa, Hacc⟩, ⟨%fl, Hland⟩⟩, Ho, ⟨%d0, %g0, %hg0, Hx⟩, ⟨%d1, %g1, %hg1, Hrw⟩, ⟨%d2, %g2, %hg2, Hix⟩, ⟨%d3, %g3, %hg3, Hew⟩, ⟨%d4, %g4, %hg4, Hout⟩⟩, Hk⟩
  have hx : g0 = xAt m ρ c := by rw [hg0]; unfold Dat.before; rw [if_pos (fetch_all 0 (by decide) t₀)]; rfl
  have hrw : g1 = rwAt m ρ c := by rw [hg1]; unfold Dat.before; rw [if_pos (fetch_all 1 (by decide) t₀)]; rfl
  have hix : g2 = ixAt m ρ c := by rw [hg2]; unfold Dat.before; rw [if_pos (fetch_all 2 (by decide) t₀)]; rfl
  have hew : g3 = ewAt m ρ c := by rw [hg3]; unfold Dat.before; rw [if_pos (fetch_all 3 (by decide) t₀)]; rfl
  subst hx hrw hix hew
  unfold Dat.owesAt Pipeline.owesWithin
  icases Ho with ⟨%W, %hW, HO⟩
  rw [show (dats m ρ 0 c).owed t₀.castSucc = O₀ c from rfl]
  -- the three signals hand over the three slots
  ihave Hl := (Entails.of_eq (land_split c fl)) $$ Hland
  icases Hl with ⟨Hs0, Hs1, Hs2⟩
  iapply (step_signal m ρ K c _ 0 (dev1_eq c) (by decide) (due5 c) W fl) $$ [HO HtB0 Hs0]
  · isplitr; · iexact HR
    isplitl [HO]; · iexact HO
    isplitl [HtB0] <;> iassumption
  iintro HO
  iapply (step_signal m ρ K c _ 1 (dev2_eq c) (by decide) (due4 c) W fl) $$ [HO HtB1 Hs1]
  · isplitr; · iexact HR
    isplitl [HO]; · iexact HO
    isplitl [HtB1] <;> iassumption
  iintro HO
  iapply (step_signal m ρ K c _ 2 (dev3_eq c) (by decide) (due3 c) W fl) $$ [HO HtB2 Hs2]
  · isplitr; · iexact HR
    isplitl [HO]; · iexact HO
    isplitl [HtB2] <;> iassumption
  iintro HO
  -- the operands are loaded and the partial sums stored
  iapply (wp_load 𝒱₀ (c : Thread nD τ) none Set.univ (m := xM) (Finset.subset_univ _)) $$ Hx; iintro Hx
  rw [read_x]
  iapply (wp_load 𝒱₀ (c : Thread nD τ) none Set.univ (m := rwM) (Finset.subset_univ _)) $$ Hrw; iintro Hrw
  rw [read_rw]
  iapply (wp_load 𝒱₀ (c : Thread nD τ) none Set.univ (m := ixM) (Finset.subset_univ _)) $$ Hix; iintro Hix
  iapply (wp_load 𝒱₀ (c : Thread nD τ) none Set.univ (m := ixM) (Finset.subset_univ _)) $$ Hix; iintro Hix
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := accM) (Finset.subset_univ _)) $$ Hacc; iintro Hacc
  iapply (step_store_acc m ρ c rfl) $$ Hacc; iintro Hacc
  ihave Ha := (Entails.of_eq (acc_split c (part m ρ c))) $$ Hacc
  icases Ha with ⟨Hown, Hrow0, Hrow1, Hrow2⟩
  -- the handshake
  iapply (step_barrier m ρ K c (by decide) W) $$ [HcB HO HaB]
  · isplitr; · iexact HR
    isplitl [HcB]; · iexact HcB
    isplitl [HO]; · iexact HO
    isplitr; · iexact Hlev
    iexact HaB
  unfold barPay
  iintro ⟨HO, HzB, Hd0, Hd1, Hd2⟩
  -- the three transfers
  iapply (step_send m ρ K c _ 2 (dev4_eq c) (off_eq c 0) (k0_off1_inb c 0) rfl rfl rfl (due2 c)) $$ [Hrow0 Hd2 HO HtS2 HtR2]
  · isplitr; · iexact HR
    isplitl [Hrow0]; · iexact Hrow0
    isplitl [Hd2]; · iexact Hd2
    isplitl [HO]; · iexact HO
    isplitl [HtS2] <;> iassumption
  iintro ⟨HcS2, HO⟩
  iapply (step_send m ρ K c _ 1 (dev5_eq c) (off_eq c 1) (k0_off1_inb c 1) rfl rfl rfl (due1 c)) $$ [Hrow1 Hd1 HO HtS1 HtR1]
  · isplitr; · iexact HR
    isplitl [Hrow1]; · iexact Hrow1
    isplitl [Hd1]; · iexact Hd1
    isplitl [HO]; · iexact HO
    isplitl [HtS1] <;> iassumption
  iintro ⟨HcS1, HO⟩
  iapply (step_send m ρ K c _ 0 (dev6_eq c) (off_eq c 2) (k0_off1_inb c 2) rfl rfl rfl 0) $$ [Hrow2 Hd0 HO HtS0 HtR0]
  · isplitr; · iexact HR
    isplitl [Hrow2]; · iexact Hrow2
    isplitl [Hd0]; · iexact Hd0
    isplitl [HO]; · iexact HO
    isplitl [HtS0] <;> iassumption
  iintro ⟨HcS0, HO⟩
  -- its own rows, read while the others travel
  unfold rowPts
  iapply (wp_load 𝒱₀ (c : Thread nD τ) none Set.univ (m := accM) (own_subset c)) $$ Hown; iintro Hown
  -- the departures and the arrivals
  iapply (step_departed m ρ K c 2 rfl _) $$ [HcS2 HO HaS2]
  · isplitr; · iexact HR
    isplitl [HcS2]; · iexact HcS2
    isplitl [HO]; · iexact HO
    iexact HaS2
  iintro ⟨HO, HzS2, Hrow0⟩
  iapply (step_arrived m ρ K c 2 rfl rfl _) $$ [HcR2 HO HaR2]
  · isplitr; · iexact HR
    isplitl [HcR2]; · iexact HcR2
    isplitl [HO]; · iexact HO
    iexact HaR2
  iintro ⟨HO, HzR2, Hs2⟩
  iapply (step_departed m ρ K c 1 rfl _) $$ [HcS1 HO HaS1]
  · isplitr; · iexact HR
    isplitl [HcS1]; · iexact HcS1
    isplitl [HO]; · iexact HO
    iexact HaS1
  iintro ⟨HO, HzS1, Hrow1⟩
  iapply (step_arrived m ρ K c 1 rfl rfl _) $$ [HcR1 HO HaR1]
  · isplitr; · iexact HR
    isplitl [HcR1]; · iexact HcR1
    isplitl [HO]; · iexact HO
    iexact HaR1
  iintro ⟨HO, HzR1, Hs1⟩
  iapply (step_departed m ρ K c 0 rfl _) $$ [HcS0 HO HaS0]
  · isplitr; · iexact HR
    isplitl [HcS0]; · iexact HcS0
    isplitl [HO]; · iexact HO
    iexact HaS0
  iintro ⟨HO, HzS0, Hrow2⟩
  iapply (step_arrived m ρ K c 0 rfl rfl _) $$ [HcR0 HO HaR0]
  · isplitr; · iexact HR
    isplitl [HcR0]; · iexact HcR0
    isplitl [HO]; · iexact HO
    iexact HaR0
  iintro ⟨HO, HzR0, Hs0⟩
  -- the received blocks are read and the result stored
  ihave Hland := (Entails.of_eq (land_split c (landed m ρ c)).symm) $$ [Hs0 Hs1 Hs2]
  · isplitl [Hs0]; · iexact Hs0
    isplitl [Hs1] <;> iassumption
  iapply (wp_load 𝒱₀ (c : Thread nD τ) none Set.univ (m := landM) (Finset.subset_univ _)) $$ Hland; iintro Hland
  iapply (wp_load 𝒱₀ (c : Thread nD τ) none Set.univ (m := landM) (Finset.subset_univ _)) $$ Hland; iintro Hland
  iapply (wp_load 𝒱₀ (c : Thread nD τ) none Set.univ (m := landM) (Finset.subset_univ _)) $$ Hland; iintro Hland
  iapply (wp_load 𝒱₀ (c : Thread nD τ) none Set.univ (m := outM) (Finset.subset_univ _)) $$ Hout; iintro Hout
  iapply (step_store_out m ρ c rfl) $$ Hout; iintro Hout
  rw [wp_ret]; imodintro
  ihave Hacc := (Entails.of_eq (acc_split c (part m ρ c)).symm) $$ [Hown Hrow0 Hrow1 Hrow2]
  · unfold rowPts
    isplitl [Hown]; · iexact Hown
    isplitl [Hrow0]; · iexact Hrow0
    isplitl [Hrow1]; · iexact Hrow1
    iexact Hrow2
  iapply Hk
  unfold bodyPost Φ₁ scratch zeros stagedPost Dat.owesAt Pipeline.owesWithin
  rw [show (dats m ρ 0 c).owed t₀.succ = 0 from rfl]
  isplitl [Hacc Hland HzS0 HzS1 HzS2 HzR0 HzR1 HzR2 HzB]
  · isplitl [Hacc Hland]
    · isplitl [Hacc]
      · iexists _; iexact Hacc
      · iexists _; iexact Hland
    isplitr [HzB]
    · isplitl [HzS0]; · iexact HzS0
      isplitl [HzS1]; · iexact HzS1
      isplitl [HzS2]; · iexact HzS2
      isplitl [HzR0]; · iexact HzR0
      isplitl [HzR1] <;> iassumption
    · iexact HzB
  isplitl [HO]
  · iexists _
    isplitr; swap; · iexact HO
    ipureintro; exact fun _ _ => Or.inl trivial
  isplitl [Hx]
  · iexists _; isplitr; · (ipureintro; rfl)
    iexact Hx
  isplitl [Hrw]
  · iexists _; isplitr; · (ipureintro; rfl)
    iexact Hrw
  isplitl [Hix]
  · iexists _; isplitr; · (ipureintro; rfl)
    iexact Hix
  isplitl [Hew]
  · iexists _; isplitr; · (ipureintro; rfl)
    iexact Hew
  iexists _; isplitr; · (ipureintro; rfl)
  iexact Hout

end Body

/-- The body discharges what the pipeline asks of it at its one grid point. -/
theorem body_obligation (c : Dev nD) : BodyObligation (dats (F := F) m ρ 0 c) (defs₀ (F := F)) 𝒱₀ () Set.univ := fun t => by
  rw [fin_N0 t, bigSep_W0, bigSep_W0]
  simp only [owns_whole_eq]
  show iprop(Φ₀ m ρ c ∗ (dats m ρ 0 c).owesAt () t₀.castSucc ∗ stagedPre m ρ c)
    ⊢ wp frame (wpE (defs₀ (F := F)) 𝒱₀ (c : Thread nD τ) none) Set.univ (bodyProg (F := F)) (fun _ => bodyPost m ρ c)
  unfold Φ₀ start
  iintro ⟨⟨⟨⟨%K, Hg⟩, Hc, Hl⟩, Hscr⟩, Ho, Hst⟩
  iapply (sound_body m ρ K c fun _ => bodyPost m ρ c)
  unfold bodyPre
  isplitr []
  · isplitl [Hg Hc Hl Hscr]
    · isplitl [Hg]; · iexact Hg
      isplitl [Hc]; · iexact Hc
      isplitl [Hl] <;> iassumption
    isplitl [Ho] <;> iassumption
  · iintro H; iexact H

end Cert.Exchange

end
-- ==== Proof.Launch.lean ====
/-
# The run of the four devices

The ghost state dealt at launch, what each device owes and is credited, and the run of the whole mesh: it ends, with every
counter at zero and every window's array at its computed contents.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens at launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide

theorem kcell_injective : Function.Injective (kcell : Dev nD × Fin 7 → GSem nD τ sig) := by
  rintro ⟨c, k⟩ ⟨c', k'⟩ h
  exact Prod.ext (congrArg (fun g : GSem nD τ sig => g.1.1) h) (csem_injective (congrArg Prod.snd h))

def cellsAll : Finset (GSem nD τ sig) := Finset.univ.map ⟨kcell, kcell_injective⟩

/-- The duties of a device's own cells: three at its barrier, then one at each of the six others. -/
def dutyOf : Fin 9 → Fin 7 × Fin 3 := ![(0, 0), (0, 1), (0, 2), (4, 0), (5, 0), (6, 0), (1, 0), (2, 0), (3, 0)]
theorem dutyOf_injective : Function.Injective dutyOf := by decide

abbrev tokOf (cj : Dev nD × Fin 9) : GSem nD τ sig × ℕ × Fin 3 := (kcell (cj.1, (dutyOf cj.2).1), 0, (dutyOf cj.2).2)
theorem tokOf_injective : Function.Injective (tokOf : Dev nD × Fin 9 → GSem nD τ sig × ℕ × Fin 3) := by
  rintro ⟨c, j⟩ ⟨c', j'⟩ h
  have h1 := kcell_injective (congrArg Prod.fst h)
  have hc : c = c' := congrArg (fun x : Dev nD × Fin 7 => x.1) h1
  exact Prod.ext hc
    (dutyOf_injective (Prod.ext (congrArg (fun x : Dev nD × Fin 7 => x.2) h1) (congrArg (fun x : GSem nD τ sig × ℕ × Fin 3 => x.2.2) h)))
def toksAll : Finset (GSem nD τ sig × ℕ × Fin 3) := Finset.univ.map ⟨tokOf, tokOf_injective⟩

def u₀ : UU :=
  (initOf (Pipeline.cells cfgs cellOf_inj) (Pipeline.launchToks cfgs cellOf_inj), initOf cellsAll toksAll)

/-- The duty tokens of device `c`'s own cells. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (recvCell c 0) 0 (0 : Fin 3) ∗ dutyTok ER (recvCell c 1) 0 (0 : Fin 3) ∗ dutyTok ER (recvCell c 2) 0 (0 : Fin 3)
    ∗ dutyTok ER (sendCell c 0) 0 (0 : Fin 3) ∗ dutyTok ER (sendCell c 1) 0 (0 : Fin 3) ∗ dutyTok ER (sendCell c 2) 0 (0 : Fin 3))

/-- What the launch deals device `c`, and what the global step makes of it. -/
def G (c : Dev nD) : sProp 𝕄 :=
  iprop((bigSep Finset.univ fun k : Fin 7 => roundState ER (rd m ρ) (kcell (c, k)) 0)
    ∗ (bigSep Finset.univ fun k : Fin 7 => iprop(atPos ER (kcell (c, k)) 0 ∅ 0 ∗ reached ER (kcell (c, k)) 0)) ∗ toks c)
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_cells : BI.own (ER (initOf cellsAll toksAll)) ⊢ (|==> bigSep Finset.univ (G m ρ) : sProp 𝕄) := by
  have hX (Φ : GSem nD τ sig → sProp 𝕄) : bigSep cellsAll Φ = bigSep Finset.univ fun c : Dev nD => bigSep Finset.univ fun k : Fin 7 => Φ (kcell (c, k)) := by
    unfold cellsAll; rw [bigSep_map, bigSep_univ_prod]; rfl
  have hT : bigSep toksAll (fun x => (dutyTok ER x.1 x.2.1 x.2.2 : sProp 𝕄)) = bigSep Finset.univ fun c : Dev nD => toks c := by
    unfold toksAll; rw [bigSep_map, bigSep_univ_prod]
    exact bigSep_congr fun c _ => by unfold toks; rw [bigSep_fin9]; rfl
  iintro HX
  imod (Rounds.fund ER (rd m ρ) cellsAll toksAll) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The launch's own six semaphores; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- the barrier semaphore is the one that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨HO, HB⟩
  isplitl [HB]; · iexact HB
  iexact HO

/-- Each device's seven cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around: barrier token `j` goes to the device whose peer `j` owns it, the token of receive cell `s` to
    the device that sends into slot `s`; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (shift 0) (fun c : Dev nD => (dutyTok ER (barCell c) 0 (0 : Fin 3) : sProp 𝕄)),
    bigSep_univ_equiv (shift 1) (fun c : Dev nD => (dutyTok ER (barCell c) 0 (1 : Fin 3) : sProp 𝕄)),
    bigSep_univ_equiv (shift 2) (fun c : Dev nD => (dutyTok ER (barCell c) 0 (2 : Fin 3) : sProp 𝕄)),
    bigSep_univ_equiv (shift (Fin.rev 0)) (fun c : Dev nD => (dutyTok ER (recvCell c 0) 0 (0 : Fin 3) : sProp 𝕄)),
    bigSep_univ_equiv (shift (Fin.rev 1)) (fun c : Dev nD => (dutyTok ER (recvCell c 1) 0 (0 : Fin 3) : sProp 𝕄)),
    bigSep_univ_equiv (shift (Fin.rev 2)) (fun c : Dev nD => (dutyTok ER (recvCell c 2) 0 (0 : Fin 3) : sProp 𝕄))]
  iintro ⟨H1, H2, H3, H4, H5, H6, H7⟩
  isplitl [H1 H2 H3]
  · isplitl [H1]; · iexact H1
    isplitl [H2]; · iexact H2
    iexact H3
  isplitl [H4 H5 H6]
  · isplitl [H4]; · iexact H4
    isplitl [H5]; · iexact H5
    iexact H6
  iexact H7

omit [FloatOps F] in
theorem poss_eq (c : Dev nD) : (bigSep Finset.univ fun k : Fin 7 => (atPos ER (kcell (c, k)) 0 ∅ 0 : sProp 𝕄)) ⊢ poss c := by
  rw [bigSep_fin7]
  unfold poss
  iintro ⟨H0, H1, H2, H3, HR⟩
  isplitl [H0]; · iexact H0
  isplitl [H1 H2 H3]
  · isplitl [H1]; · iexact H1
    isplitl [H2]; · iexact H2
    iexact H3
  iexact HR

omit [FloatOps F] in
/-- A persistent resource goes along with every conjunct. -/
theorem bigSep_along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Each device is given all the invariants, its positions and the tokens it pays with. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m ρ) κ (kcell ck) : sProp 𝕄))) $$ HI
  icases HK with ⟨%K, #HI⟩
  ihave Htk := (toks_around (F := F)) $$ Htok
  have hdeal (c : Dev nD) : iprop(records m ρ K ∗ (poss c ∗ payToks c)) ⊢ G' m ρ c := by
    unfold G' ghost
    iintro H
    iexists K
    iexact H
  iapply (bigSep_along (R := records m ρ K) fun c _ => hdeal c)
  isplitr
  · unfold records; isplitl; · iexact HI
    iexact HR
  · rw [bigSep_sep']
    isplitl [Hat]
    · have hp : (bigSep Finset.univ fun c : Dev nD => bigSep Finset.univ fun k : Fin 7 => (atPos ER (kcell (c, k)) 0 ∅ 0 : sProp 𝕄))
          ⊢ bigSep Finset.univ fun c : Dev nD => poss c := bigSep_mono fun c _ => poss_eq c
      iapply hp; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

omit [FloatOps F] in
theorem cred_recv (c : Dev nD) (s : Fin 3) : (Pipeline.launchCred (fun d => recvDue d s) c : sProp 𝕄) ⊢ cred (tallyAt (recvCell c s) () N) :=
  Pipeline.launchCred_tallyAt (.dma (recvS s)) (peer s.rev) (peer s) (peer_rev_peer s) (peer_peer_rev s) () N c
omit [FloatOps F] in
theorem cred_bar (c : Dev nD) (j : Fin 3) : (Pipeline.launchCred (fun d => barDue d j) c : sProp 𝕄) ⊢ cred (tallyAt (barCell c) () 1) :=
  Pipeline.launchCred_tallyAt (.reg barS) (peer j) (peer j.rev) (peer_peer_rev j) (peer_rev_peer j) () 1 c

omit [FloatOps F] in
/-- Three units of credit at the barrier make the credit of the whole wait. -/
theorem cred_three (c : Dev nD) :
    iprop(cred (tallyAt (barCell c) () 1) ∗ cred (tallyAt (barCell c) () 1) ∗ cred (tallyAt (barCell c) () 1)) ⊢ (cred (tallyAt (barCell c) () 3) : sProp 𝕄) := by
  have h : (tallyAt (barCell c) () 3 : CellTallies nD τ sig Unit) = tallyAt (barCell c) () 1 + (tallyAt (barCell c) () 1 + tallyAt (barCell c) () 1) := by
    funext g; refine Finsupp.ext fun u => ?_
    rw [Pi.add_apply, Pi.add_apply, Finsupp.add_apply, Finsupp.add_apply, tallyAt_apply, tallyAt_apply]
    split <;> rfl
  rw [h]
  exact (sep_mono_right (cred_add _ _).2).trans (cred_add _ _).2

omit [FloatOps F] in
theorem creds_intro (c : Dev nD) : (Pipeline.launchCred O₀ c : sProp 𝕄) ⊢ creds c := by
  rw [show (O₀ : Dev nD → CellTallies nD τ sig Unit) = fun d => due5 d + barDue d 0 from rfl, Pipeline.launchCred_add,
    show (due5 : Dev nD → CellTallies nD τ sig Unit) = fun d => due4 d + barDue d 1 from rfl, Pipeline.launchCred_add,
    show (due4 : Dev nD → CellTallies nD τ sig Unit) = fun d => due3 d + barDue d 2 from rfl, Pipeline.launchCred_add,
    show (due3 : Dev nD → CellTallies nD τ sig Unit) = fun d => due2 d + recvDue d 2 from rfl, Pipeline.launchCred_add,
    show (due2 : Dev nD → CellTallies nD τ sig Unit) = fun d => due1 d + recvDue d 1 from rfl, Pipeline.launchCred_add,
    show (due1 : Dev nD → CellTallies nD τ sig Unit) = fun d => 0 + recvDue d 0 from rfl, Pipeline.launchCred_add]
  unfold creds
  iintro ⟨⟨⟨⟨⟨⟨-, Hr0⟩, Hr1⟩, Hr2⟩, Hb2⟩, Hb1⟩, Hb0⟩
  isplitl [Hb0 Hb1 Hb2]
  · iapply (cred_three c)
    isplitl [Hb0]; · iapply (cred_bar c 0); iexact Hb0
    isplitl [Hb1]; · iapply (cred_bar c 1); iexact Hb1
    iapply (cred_bar c 2); iexact Hb2
  isplitl [Hr0]; · iapply (cred_recv c 0); iexact Hr0
  isplitl [Hr1]; · iapply (cred_recv c 1); iexact Hr1
  iapply (cred_recv c 2); iexact Hr2

/-! ## Entering and leaving the kernel -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros
  iintro ⟨Hr, HO, HB⟩
  isplitl [HB]; · iexact HB
  isplitl [HO]; · iexact HO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array when the run is over. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every weakly fair run of the four devices ends, with every
    window's array at its computed contents and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of the four operands end as they began. -/
theorem final_x (c : Dev nD) : finalA m ρ c (0 : Fin 5) = m ((cfg0.win (0 : Fin 5)).arr.view.loc (c : Thread nD τ)) :=
  (dats (F := F) m ρ 0 c).arrAt_in (0 : Fin 5) rfl _
theorem final_rw (c : Dev nD) : finalA m ρ c (1 : Fin 5) = m ((cfg0.win (1 : Fin 5)).arr.view.loc (c : Thread nD τ)) :=
  (dats (F := F) m ρ 0 c).arrAt_in (1 : Fin 5) rfl _
theorem final_ix (c : Dev nD) : finalA m ρ c (2 : Fin 5) = m ((cfg0.win (2 : Fin 5)).arr.view.loc (c : Thread nD τ)) :=
  (dats (F := F) m ρ 0 c).arrAt_in (2 : Fin 5) rfl _
theorem final_ew (c : Dev nD) : finalA m ρ c (3 : Fin 5) = m ((cfg0.win (3 : Fin 5)).arr.view.loc (c : Thread nD τ)) :=
  (dats (F := F) m ρ 0 c).arrAt_in (3 : Fin 5) rfl _

end Cert.Exchange

end
-- ==== Proof.Frames.lean ====
/-
# The frames

Both prints of the kernel and the reference run to completion, leave their arguments alone, and end with every counter at
zero. The kernel's run is the one of `Launch.lean`, which holds for any float values.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import Idealize.ShloMosaic.Lib.Quiescent

@[expose] public section

noncomputable section

namespace Cert.Exchange

open Idealize.ShloMosaic Idealize.ShloMosaic.TcCoe Idealize.SL.Sem

/-- For any float values: the arguments end as they began and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c (0 : Fin 5)).trans (final_x m ρ c), (h.1 c (1 : Fin 5)).trans (final_rw m ρ c),
      (h.1 c (2 : Fin 5)).trans (final_ix m ρ c), (h.1 c (3 : Fin 5)).trans (final_ew m ρ c)⟩, h.2⟩)
    (run_main m ρ)

/-- The kernel over the extended reals. -/
theorem frame_ideal : Cert.quiescent_KernelIdeal (hKernelIdeal := Cert.KernelIdeal.Gen.facts) := fun m ρ _ => frame_any (F := Ideal) m ρ

/-- The same with the precondition in hand. -/
theorem frame_ideal_routed : Cert.quiescent_KernelIdeal_pre_routed_KernelIdeal (hKernelIdeal := Cert.KernelIdeal.Gen.facts)
    (hPre_routed_KernelIdeal := Cert.Pre_routed_KernelIdeal.Gen.facts) := fun m ρ _ => frame_any (F := Ideal) m ρ

section Printed

variable {F : FTy → Type} [FloatOps F]

attribute [local instance] Cert.Kernel.Gen.facts

/-- The two prints have the same body. -/
theorem body_same : @Cert.Kernel.cc0_body F _ _ = @Cert.KernelIdeal.cc0_body F _ _ := rfl

/-- The two prints bind their one label to the same program. -/
theorem label_same : @Cert.Kernel.defs₀ F _ _ = @Cert.KernelIdeal.defs₀ F _ _ := by
  unfold Cert.Kernel.defs₀ Cert.KernelIdeal.defs₀
  refine congrArg Defs.onTc ?_
  funext ℓ a
  match ℓ, a with
  | 0, (t, s) =>
    show Cert.Kernel.cc0_body _ _ _ _ _ _ _ _ _ _ _ _ _ _ _ _ = Cert.KernelIdeal.cc0_body _ _ _ _ _ _ _ _ _ _ _ _ _ _ _ _
    rw [body_same]

/-- The two prints have the same table of programs. -/
theorem table_same : @Cert.Kernel.defs F _ _ = @Cert.KernelIdeal.defs F _ _ := by
  unfold Cert.Kernel.defs Cert.KernelIdeal.defs
  rw [label_same]
  rfl

/-- The two prints launch the same program. -/
theorem entry_same : @Cert.Kernel.main F _ = @Cert.KernelIdeal.main F _ := rfl

end Printed

/-- The kernel as printed, its floats bit patterns. -/
theorem frame_kernel : Cert.quiescent_Kernel (hKernel := Cert.Kernel.Gen.facts) := fun m ρ _ => by
  have h := frame_any (F := Bits) m ρ
  rw [← table_same, ← entry_same] at h
  exact h

/-- The reference over the extended reals: a line of operations that writes no argument, with no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same with the precondition in hand. -/
theorem frame_ref_routed : Cert.quiescent_ReferenceIdeal_pre_routed_ReferenceIdeal (hReferenceIdeal := Cert.ReferenceIdeal.Gen.facts)
    (hPre_routed_ReferenceIdeal := Cert.Pre_routed_ReferenceIdeal.Gen.facts) := fun m ρ _ => frame_ref m ρ trivial

end Cert.Exchange

end
-- ==== Proof.Routed.lean ====
/-
# What the precondition says

Where `routed` holds, the router's operands are real numbers and every routing word is the number of one of the eight experts.
-/
module

public import proofs.«01_k».proof.Defs
public import proofs.«01_k».proof.Proof.Gen.Pre_routed_KernelIdeal
public import Idealize.ShloMosaic.Lib.ReduceAll
public import Idealize.ShloMosaic.Lib.Pointwise

@[expose] public section

noncomputable section

namespace Cert.Exchange

open Idealize.ShloMosaic Idealize.ShloMosaic.TcCoe Idealize.SL.Sem

attribute [local instance] Cert.Pre_routed_KernelIdeal.Gen.facts

/-- Two bits whose conjunction is one are both one. -/
theorem both_one {a b : BitVec 1} (h : IntOp.andi a b = 1#1) : a = 1#1 ∧ b = 1#1 := by
  revert a b; decide

/-- An extended real whose magnitude is below infinity is a real number. -/
theorem real_of_below {x : EReal} (h : FloatOps.cmpf (F := Ideal) (φ := .bf16) .olt (FloatOps.hostAbsf x) (FloatOps.ofBits (F := Ideal) .bf16 0x7F80#16) = 1#1) :
    ∃ q : ℝ, x = q := by
  have ht : Ideal.ofBits .bf16 0x7F80#16 = ⊤ := by simp [Ideal.ofBits, Ideal.ieee]
  have h' : Ideal.cmp .olt (max x (-x)) (Ideal.ofBits .bf16 0x7F80#16) = 1#1 := h
  rw [ht] at h'
  induction x with
  | bot => simp [Ideal.cmp] at h'
  | top => simp [Ideal.cmp] at h'
  | coe q => exact ⟨q, rfl⟩

/-- A word from 0 up to 8, as signed numbers, is the number of an expert. -/
theorem expert_of_within {i : BitVec 32} (h : IntOp.andi (IntOp.cmpi .sge i 0#32) (IntOp.cmpi .slt i 8#32) = 1#1) :
    ∃ e : Fin 8, i = BitVec.ofNat 32 e.val := by
  obtain ⟨h0, h8⟩ := both_one h
  have one {p : Prop} [Decidable p] (hb : BitVec.ofBool (decide p) = 1#1) : p := by
    by_contra hn
    rw [decide_eq_false hn] at hb
    exact absurd hb (by decide)
  have l0 : 0 ≤ i.toInt := one h0
  have l8 : i.toInt < 8 := one h8
  have hN : i.toNat < 8 := by
    have := BitVec.toInt_eq_toNat_cond i
    have := i.isLt
    split at * <;> omega
  exact ⟨⟨i.toNat, hN⟩, by simp⟩

/-- The precondition's parts. -/
theorem routed_parts (x : FVec Ideal ⟨2, ![256, 128]⟩ .bf16) (w : FVec Ideal ⟨2, ![128, 8]⟩ .bf16) (I : IVec ⟨2, ![256, 2]⟩ 32)
    (E : FVec Ideal ⟨3, ![2, 128, 256]⟩ .bf16) (h : Cert.Pre_routed_KernelIdeal.fn (F := Ideal) x w I E = fun _ => 1#1) :
    (∀ i, ∃ q : ℝ, x i = q) ∧ (∀ i, ∃ q : ℝ, w i = q) ∧ ∀ i, ∃ e : Fin 8, I i = BitVec.ofNat 32 e.val := by
  have : Subsingleton Cert.Pre_routed_KernelIdeal.S_.Idx := ⟨fun a b => funext fun i => i.elim0⟩
  have h1 := congrFun h (fun i => i.elim0)
  obtain ⟨h2, hi⟩ := both_one h1
  obtain ⟨hx, hw⟩ := both_one h2
  exact ⟨fun i => real_of_below (Host.reduce_andi_all _ _ _ _ _ hx i), fun i => real_of_below (Host.reduce_andi_all _ _ _ _ _ hw i),
    fun i => expert_of_within (Host.reduce_andi_all _ _ _ _ _ hi i)⟩

end Cert.Exchange

end
-- ==== Proof.Mixture.lean ====
/-
# The arithmetic of the mixture, over the extended reals

Two facts without programs. Softmax of finite scores gives positive real numbers. And with two positive real gates `a` and
`b`, scaling the token by each expert's share before that expert's product, summed over all the experts, is the weighted
sum of the two chosen experts' products. An expert's matrix may hold infinities: only the gates are asked to be finite.
-/
module

public import Idealize.ShloMosaic.Lib.Pointwise
public import Idealize.ShloMosaic.Lib.IdealHost

@[expose] public section

noncomputable section

namespace Cert.Exchange

open Idealize.ShloMosaic

/-! ## Softmax -/

/-- The largest of eight scores, as both programs fold it. -/
def top (s : Fin 8 → EReal) : EReal := Finset.univ.fold max (Ideal.ofBits .f32 0xFF800000#32) s

/-- The softmax of eight scores, as both programs compute it. -/
def soft (s : Fin 8 → EReal) (e : Fin 8) : EReal := Ideal.div (Ideal.exp (s e - top s)) (∑ k, Ideal.exp (s k - top s))

/-- The word the fold starts from is minus infinity. -/
theorem start_bot : Ideal.ofBits .f32 0xFF800000#32 = ⊥ := by simp [Ideal.ofBits, Ideal.ieee]

/-- The largest of real scores is real. -/
theorem top_real (s : Fin 8 → ℝ) : ∃ t : ℝ, top (fun e => (s e : EReal)) = t := by
  obtain ⟨e, -, he⟩ := Finset.exists_mem_eq_sup (Finset.univ : Finset (Fin 8)) Finset.univ_nonempty fun e => (s e : EReal)
  refine ⟨s e, ?_⟩
  unfold top
  rw [start_bot]
  exact he

/-- A sum of real numbers, taken in the extended reals, is real. -/
theorem sum_real {ι : Type} (S : Finset ι) (f : ι → ℝ) : (∑ i ∈ S, (f i : EReal)) = ((∑ i ∈ S, f i : ℝ) : EReal) := by
  classical
  induction S using Finset.induction_on with
  | empty => simp
  | insert i S h ih => rw [Finset.sum_insert h, Finset.sum_insert h, ih, EReal.coe_add]

/-- The softmax of real scores is real and positive. -/
theorem soft_pos (s : Fin 8 → ℝ) (e : Fin 8) : ∃ q : ℝ, 0 < q ∧ soft (fun e => (s e : EReal)) e = q := by
  obtain ⟨t, ht⟩ := top_real s
  have hx (k : Fin 8) : Ideal.exp ((s k : EReal) - top fun e => (s e : EReal)) = ((Real.exp (s k - t) : ℝ) : EReal) := by
    rw [ht, ← EReal.coe_sub, Ideal.exp_coe]
  have hpos : 0 < ∑ k, Real.exp (s k - t) := Finset.sum_pos (fun k _ => Real.exp_pos _) Finset.univ_nonempty
  refine ⟨Real.exp (s e - t) * (1 / ∑ k, Real.exp (s k - t)), mul_pos (Real.exp_pos _) (one_div_pos.2 hpos), ?_⟩
  unfold soft
  simp only [hx]
  rw [sum_real, Ideal.div_coe hpos.ne', EReal.coe_mul]

/-! ## The mixture -/

variable {ι κ : Type} [Fintype ι] [DecidableEq ι] [Fintype κ]

/-- A finite nonnegative factor inside every product of a sum comes out in front. -/
theorem factor_out (X W : κ → EReal) {g : EReal} (h0 : 0 ≤ g) (hT : g ≠ ⊤) : (∑ k, X k * g * W k) = g * ∑ k, X k * W k := by
  classical
  have h (S : Finset κ) : (∑ k ∈ S, X k * g * W k) = g * ∑ k ∈ S, X k * W k := by
    induction S using Finset.induction_on with
    | empty => simp
    | insert i S hi ih =>
      rw [Finset.sum_insert hi, Finset.sum_insert hi, ih, EReal.left_distrib_of_nonneg_of_ne_top h0 hT]
      congr 1
      rw [mul_comm (X i) g, mul_assoc]
  exact h _

/-- The share of expert `e`: what the gates of the two chosen experts give it. -/
def share (a b : EReal) (e0 e1 e : ι) : EReal :=
  Ideal.div ((if e0 = e then a else 0) + (if e1 = e then b else 0)) (a + b)

/-- The experts' products of the token scaled by their shares add up to the weighted sum of the two chosen experts' products. -/
theorem mixture (X : κ → EReal) (W : ι → κ → EReal) (a b : ℝ) (ha : 0 < a) (hb : 0 < b) (e0 e1 : ι) :
    (∑ e, ∑ k, X k * share (a : EReal) b e0 e1 e * W e k)
      = Ideal.div a (a + b) * (∑ k, X k * W e0 k) + Ideal.div b (a + b) * ∑ k, X k * W e1 k := by
  have hs : (0 : ℝ) < a + b := add_pos ha hb
  have hr : (0 : ℝ) ≤ 1 / (a + b) := (one_div_pos.2 hs).le
  have hd (x : EReal) : Ideal.div x ((a : EReal) + b) = x * ((1 / (a + b) : ℝ) : EReal) := by
    rw [← EReal.coe_add, Ideal.div_coe hs.ne']
  -- each gate's part of a share, a nonnegative real number
  have hg (u : ℝ) (hu : 0 < u) (p : Prop) [Decidable p] :
      ∃ v : ℝ, 0 ≤ v ∧ (if p then (u : EReal) else 0) * ((1 / (a + b) : ℝ) : EReal) = v := by
    refine ⟨(if p then u else 0) * (1 / (a + b)), mul_nonneg (by split <;> linarith) hr, ?_⟩
    split <;> simp [EReal.coe_mul]
  have hsplit (e : ι) : (∑ k, X k * share (a : EReal) b e0 e1 e * W e k)
      = (if e0 = e then Ideal.div a (a + b) * ∑ k, X k * W e k else 0) + (if e1 = e then Ideal.div b (a + b) * ∑ k, X k * W e k else 0) := by
    obtain ⟨v, hv, ev⟩ := hg a ha (e0 = e)
    obtain ⟨w, hw, ew⟩ := hg b hb (e1 = e)
    have hsh : share (a : EReal) b e0 e1 e = ((v + w : ℝ) : EReal) := by
      unfold share
      rw [hd, EReal.right_distrib_of_nonneg (by split <;> [exact EReal.coe_nonneg.2 ha.le; exact le_rfl])
        (by split <;> [exact EReal.coe_nonneg.2 hb.le; exact le_rfl]), ev, ew, EReal.coe_add]
    rw [hsh, factor_out _ _ (EReal.coe_nonneg.2 (add_nonneg hv hw)) (EReal.coe_ne_top _), EReal.coe_add,
      EReal.right_distrib_of_nonneg (EReal.coe_nonneg.2 hv) (EReal.coe_nonneg.2 hw), ← ev, ← ew, hd, hd]
    congr 1 <;> split <;> simp
  rw [Finset.sum_congr rfl fun e _ => hsplit e, Finset.sum_add_distrib]
  simp only [Finset.sum_ite_eq, Finset.mem_univ, if_true]

end Cert.Exchange

end
-- ==== Proof.Partial.lean ====
/-
# What a device computes and what it returns, read at an index

The partial sums of one device at one token and one column, over the extended reals: the products of its two experts, each
of the token scaled by that expert's share. The result of a device at one row and one column: the sum over the four devices
of their partial sums at that row of the whole.
-/
module

public import proofs.«01_k».proof.Proof.Launch
public import proofs.«01_k».proof.Proof.Mixture
public import Idealize.ShloMosaic.Lib.Pipeline.ValueKit

@[expose] public section

set_option maxRecDepth 16384

noncomputable section

namespace Cert.Exchange

open Cert.KernelIdeal Cert.KernelIdeal.Gen
open Idealize.ShloMosaic Idealize.ShloMosaic.TcCoe Idealize.SL.Sem

/-! ## The partial sums -/

/-- The score of token `r` for expert `e`. -/
def score (x : (⟨2, ![256, 128]⟩ : Shape).Idx → EReal) (w : (⟨2, ![128, 8]⟩ : Shape).Idx → EReal) (r : Fin 256) (e : Fin 8) : EReal :=
  ∑ k : Fin 128, x (ix2 r k) * w (ix2 k e)

/-- Expert `j` of device `d`. -/
def own (d : Dev nD) (j : Fin 2) : Fin 8 := ⟨2 * d.val + j.val, by have : d.val < 4 := d.isLt; omega⟩

/-- The kernel's softmax at a token and an expert. -/
theorem soft_read (x : Vec Ideal S256x128 .bf16) (w : Vec Ideal S128x8 .bf16) (r : Fin 256) (e : Fin 8) :
    k0_pay3 x w (ix2 r e) = soft (score x w r) e := by
  pointwise [k0_pay3, k0_pay2]
  rfl

/-- Two experts have the same word only if they are the same. -/
theorem word_eq (a b : Fin 8) : (IntOp.cmpi .eq (BitVec.ofNat 32 a.val) (BitVec.ofNat 32 b.val) = 1#1) ↔ a = b := by
  revert a b; decide

/-- The kernel's word for its expert `j`. -/
theorem own_word (d : Dev nD) : Scalar.addi (Scalar.muli (rank d) 2#32) 0#32 = BitVec.ofNat 32 (own d 0).val
    ∧ Scalar.addi (Scalar.muli (rank d) 2#32) 1#32 = BitVec.ofNat 32 (own d 1).val := by
  revert d; decide

/-- A gate kept where its expert is the one asked about, zero elsewhere. -/
theorem keep_eq (a b : Fin 8) (v : EReal) :
    Scalar.select (IntOp.cmpi .eq (BitVec.ofNat 32 a.val) (BitVec.ofNat 32 b.val)) v 0 = if a = b then v else 0 := by
  unfold Scalar.select
  exact if_congr (word_eq a b) rfl rfl

/-- A masked sum over the experts picks the entry of the one named. -/
theorem masked_sum (f : Fin 8 → EReal) (e : Fin 8) :
    (∑ k : Fin 8, Scalar.select (IntOp.cmpi .eq (BitVec.ofNat 32 k.val) (BitVec.ofNat 32 e.val)) (f k) 0) = f e := by
  rw [Finset.sum_congr rfl fun k _ => keep_eq k e (f k)]
  simp only [Finset.sum_ite_eq', Finset.mem_univ, if_true]

/-- The first gate of a token before it is normalised: the softmax of the first expert chosen. -/
theorem gate0_read (p : FVec Ideal S256x8 .f32) (i : Vec Ideal S256x1 .i32) (r : Fin 256) (e : Fin 8) (h : i (ix2 r 0) = BitVec.ofNat 32 e.val) :
    k0_pay6 p (iota .tc S256x8 32 [1] iota_S256x8_d1_w32) i (ix2 r 0) = p (ix2 r e) := by
  pointwise [k0_pay6, k0_pay4]
  rw [h]
  exact masked_sum (fun k => p (ix2 r k)) e

/-- The second gate likewise. -/
theorem gate1_read (p : FVec Ideal S256x8 .f32) (i : Vec Ideal S256x1 .i32) (r : Fin 256) (e : Fin 8) (h : i (ix2 r 0) = BitVec.ofNat 32 e.val) :
    k0_pay7 p (iota .tc S256x8 32 [1] iota_S256x8_d1_w32) i (ix2 r 0) = p (ix2 r e) := by
  pointwise [k0_pay7, k0_pay5]
  rw [h]
  exact masked_sum (fun k => p (ix2 r k)) e

/-- The partial sums of device `d` at token `r` and column `o`. -/
theorem part_read (d : Dev nD) (x : Vec Ideal S256x128 .bf16) (w : Vec Ideal S128x8 .bf16) (i0 i1 : Vec Ideal S256x1 .i32)
    (w0 w1 : Vec Ideal S1x128x256 .bf16) (r o : Fin 256) (e0 e1 : Fin 8)
    (h0 : i0 (ix2 r 0) = BitVec.ofNat 32 e0.val) (h1 : i1 (ix2 r 0) = BitVec.ofNat 32 e1.val) :
    partOf d x w i0 i1 w0 w1 (ix2 r o)
      = (∑ k, x (ix2 r k) * share (soft (score x w r) e0) (soft (score x w r) e1) e0 e1 (own d 0) * w0 (ix3 0 k o))
        + ∑ k, x (ix2 r k) * share (soft (score x w r) e0) (soft (score x w r) e1) e0 e1 (own d 1) * w1 (ix3 0 k o) := by
  unfold partOf share
  rw [← soft_read, ← soft_read]
  generalize k0_pay3 x w = p
  obtain ⟨hw0, hw1⟩ := own_word d
  generalize rank d = q at *
  pointwise [k0_pay12, k0_pay9, k0_pay2, k0_pay5, k0_pay4, k0_pay8, k0_pay10, k0_pay11]
  rw [gate0_read p i0 r e0 h0, gate1_read p i1 r e1 h1, h0, h1, hw0, hw1]
  simp only [keep_eq]

/-! ## The result of a device -/

section Result

variable (m : (ℓ : Loc nD τ sig) → Buf (Elt Ideal) ℓ) (ρ : Dev nD → PrngReg)

/-- Row `r` of device `c`'s rows, in the whole. -/
def rowAt (c : Dev nD) (r : Fin 64) : Fin 256 := ⟨64 * c.val + r.val, by have : c.val < 4 := c.isLt; omega⟩

omit m ρ in
/-- The load of the device's own rows. -/
theorem own_row (c : Dev nD) (P : FVec Ideal S256x256 .bf16) (r : Fin 64) (o : Fin 256) :
    (accM.view.readAt (Elt Ideal) (ownR c).toLoadRect P : S64x256.Idx → EReal) (ix2 r o) = P (ix2 (rowAt c r) o) := by
  refine congrArg P (funext fun a => Fin.ext ?_)
  have h := congrFun (k0_off2_eq c) a
  match a with
  | ⟨0, _⟩ =>
    show k0_off2 c 0 + 1 * r.val = 64 * c.val + r.val
    have h' : k0_off2 c 0 = 64 * c.val := h
    omega
  | ⟨1, _⟩ =>
    show k0_off2 c 1 + 1 * o.val = o.val
    have h' : k0_off2 c 1 = 0 := h
    omega

omit m ρ in
/-- The load of slot `s`. -/
theorem slot_row (s : Fin 3) (L : FVec Ideal S3x64x256 .bf16) (r : Fin 64) (o : Fin 256) :
    (landM.view.readAt (Elt Ideal) (slotR s).toLoadRect L : S1x64x256.Idx → EReal) (ix3 0 r o) = L (ix3 s r o) := by
  refine congrArg L (funext fun a => Fin.ext ?_)
  match a with
  | ⟨0, _⟩ => show s.val + 1 * 0 = s.val; omega
  | ⟨1, _⟩ => show 0 + 1 * r.val = r.val; omega
  | ⟨2, _⟩ => show 0 + 1 * o.val = o.val; omega

omit m ρ in
/-- The sum of four blocks as the kernel takes it. -/
theorem sum_read {A B C D : EReal} (mine : Vec Ideal S64x256 .bf16) (a0 a1 a2 : Vec Ideal S1x64x256 .bf16) (r : Fin 64) (o : Fin 256)
    (hA : mine (ix2 r o) = A) (hB : a0 (ix3 0 r o) = B) (hC : a1 (ix3 0 r o) = C) (hD : a2 (ix3 0 r o) = D) :
    k0_pay1 (k0_pay13 mine) a0 a1 a2 (ix2 r o) = A + B + C + D := by
  subst hA hB hC hD
  pointwise [k0_pay1, k0_pay13]

/-- What lies in slot `s`. -/
theorem landed_read (c : Dev nD) (s : Fin 3) (r : Fin 64) (o : Fin 256) :
    landed m ρ c (ix3 s r o) = part m ρ (peer s c) (ix2 (rowAt c r) o) := by
  unfold landed
  refine congrArg (part m ρ (peer s c)) (funext fun a => ?_)
  match a with
  | ⟨0, _⟩ => rfl
  | ⟨1, _⟩ => rfl

/-- The result of device `c`: the four devices' partial sums at its rows, its own first. -/
theorem out_read (c : Dev nD) (r : Fin 64) (o : Fin 256) :
    outAt m ρ c (ix2 r o) = part m ρ c (ix2 (rowAt c r) o) + part m ρ (peer 0 c) (ix2 (rowAt c r) o)
      + part m ρ (peer 1 c) (ix2 (rowAt c r) o) + part m ρ (peer 2 c) (ix2 (rowAt c r) o) :=
  sum_read _ _ _ _ r o (own_row c _ r o) ((slot_row 0 _ r o).trans (landed_read m ρ c 0 r o))
    ((slot_row 1 _ r o).trans (landed_read m ρ c 1 r o)) ((slot_row 2 _ r o).trans (landed_read m ρ c 2 r o))

/-- The devices met at the three distances, with the device itself, are all four. -/
theorem around (f : Dev nD → EReal) (c : Dev nD) : f c + f (peer 0 c) + f (peer 1 c) + f (peer 2 c) = ∑ d, f d := by
  have h : ∀ c : Dev nD, (c = 0 ∧ peer 0 c = 1 ∧ peer 1 c = 2 ∧ peer 2 c = 3) ∨ (c = 1 ∧ peer 0 c = 2 ∧ peer 1 c = 3 ∧ peer 2 c = 0)
      ∨ (c = 2 ∧ peer 0 c = 3 ∧ peer 1 c = 0 ∧ peer 2 c = 1) ∨ (c = 3 ∧ peer 0 c = 0 ∧ peer 1 c = 1 ∧ peer 2 c = 2) := by decide
  have hs : ∑ d, f d = f 0 + f 1 + f 2 + f 3 := Fin.sum_univ_four f
  rw [hs]
  rcases h c with ⟨h, h0, h1, h2⟩ | ⟨h, h0, h1, h2⟩ | ⟨h, h0, h1, h2⟩ | ⟨h, h0, h1, h2⟩ <;> rw [h0, h1, h2, h] <;> ac_rfl

/-- The array of the result once the run has ended. -/
theorem final_out (c : Dev nD) : finalA m ρ c (4 : Fin 5) = outAt m ρ c := by
  unfold finalA
  refine (dats m ρ 0 c).arrAt_eq_of_covers (4 : Fin 5) _ (by decide +kernel) fun t hf y => ?_
  show outAt m ρ c y = outAt m ρ c (((cfg0.win (4 : Fin 5)).blk t).view.emb y)
  refine congrArg (outAt m ρ c) (funext fun a => Fin.ext ?_)
  have h0 : ∀ (t : Fin cfg0.grid.N) (a : Fin 2), win0_4.index t a = 0 := by decide
  blk_simp
  rw [h0 t a, Nat.zero_mul, Nat.zero_add]

/-! ## The partial sums from the arguments -/

/-- The staged operands are the arguments, whole. -/
theorem x_whole (c : Dev nD) : xAt m ρ c = m ((c : Thread nD τ).loc main_arg0) := by
  have h0 : ∀ a : Fin 2, win0_0.index (0 : Fin 1) a = 0 := by decide
  funext y
  refine congrArg (m ((c : Thread nD τ).loc main_arg0)) (funext fun a => Fin.ext ?_)
  blk_simp
  rw [h0 a, Nat.zero_mul, Nat.zero_add]
theorem rw_whole (c : Dev nD) : rwAt m ρ c = m ((c : Thread nD τ).loc main_arg1) := by
  have h0 : ∀ a : Fin 2, win0_1.index (0 : Fin 1) a = 0 := by decide
  funext y
  refine congrArg (m ((c : Thread nD τ).loc main_arg1)) (funext fun a => Fin.ext ?_)
  blk_simp
  rw [h0 a, Nat.zero_mul, Nat.zero_add]
theorem ix_whole (c : Dev nD) : ixAt m ρ c = m ((c : Thread nD τ).loc main_arg2) := by
  have h0 : ∀ a : Fin 2, win0_2.index (0 : Fin 1) a = 0 := by decide
  funext y
  refine congrArg (m ((c : Thread nD τ).loc main_arg2)) (funext fun a => Fin.ext ?_)
  blk_simp
  rw [h0 a, Nat.zero_mul, Nat.zero_add]
theorem ew_whole (c : Dev nD) : ewAt m ρ c = m ((c : Thread nD τ).loc main_arg3) := by
  have h0 : ∀ a : Fin 3, win0_3.index (0 : Fin 1) a = 0 := by decide
  funext y
  refine congrArg (m ((c : Thread nD τ).loc main_arg3)) (funext fun a => Fin.ext ?_)
  blk_simp
  rw [h0 a, Nat.zero_mul, Nat.zero_add]

omit m ρ in
/-- The loads of the two columns of the routing and of the two experts. -/
theorem col0_read (I : IVec S256x2 32) (r : Fin 256) :
    (ixM.view.readAt (Elt Ideal) ixR0.toLoadRect I : S256x1.Idx → BitVec 32) (ix2 r 0) = I (ix2 r 0) := by
  refine congrArg I (funext fun a => Fin.ext ?_)
  match a with
  | ⟨0, _⟩ => show 0 + 1 * r.val = r.val; omega
  | ⟨1, _⟩ => rfl
omit m ρ in
theorem col1_read (I : IVec S256x2 32) (r : Fin 256) :
    (ixM.view.readAt (Elt Ideal) ixR1.toLoadRect I : S256x1.Idx → BitVec 32) (ix2 r 0) = I (ix2 r 1) := by
  refine congrArg I (funext fun a => Fin.ext ?_)
  match a with
  | ⟨0, _⟩ => show 0 + 1 * r.val = r.val; omega
  | ⟨1, _⟩ => rfl
omit m ρ in
theorem expert0_read (E : FVec Ideal S2x128x256 .bf16) (k : Fin 128) (o : Fin 256) :
    (ewM.view.readAt (Elt Ideal) ewR0.toLoadRect E : S1x128x256.Idx → EReal) (ix3 0 k o) = E (ix3 0 k o) := by
  refine congrArg E (funext fun a => Fin.ext ?_)
  match a with
  | ⟨0, _⟩ => rfl
  | ⟨1, _⟩ => show 0 + 1 * k.val = k.val; omega
  | ⟨2, _⟩ => show 0 + 1 * o.val = o.val; omega
omit m ρ in
theorem expert1_read (E : FVec Ideal S2x128x256 .bf16) (k : Fin 128) (o : Fin 256) :
    (ewM.view.readAt (Elt Ideal) ewR1.toLoadRect E : S1x128x256.Idx → EReal) (ix3 0 k o) = E (ix3 1 k o) := by
  refine congrArg E (funext fun a => Fin.ext ?_)
  match a with
  | ⟨0, _⟩ => rfl
  | ⟨1, _⟩ => show 0 + 1 * k.val = k.val; omega
  | ⟨2, _⟩ => show 0 + 1 * o.val = o.val; omega

/-- The partial sums of device `c` from its arguments `x`, `w`, `I` and `E`. -/
theorem part_at (c : Dev nD) (x : FVec Ideal S256x128 .bf16) (w : FVec Ideal S128x8 .bf16) (I : IVec S256x2 32) (E : FVec Ideal S2x128x256 .bf16)
    (hx : m ((c : Thread nD τ).loc main_arg0) = x) (hw : m ((c : Thread nD τ).loc main_arg1) = w)
    (hI : m ((c : Thread nD τ).loc main_arg2) = I) (hE : m ((c : Thread nD τ).loc main_arg3) = E)
    (r o : Fin 256) (e0 e1 : Fin 8) (h0 : I (ix2 r 0) = BitVec.ofNat 32 e0.val) (h1 : I (ix2 r 1) = BitVec.ofNat 32 e1.val) :
    part m ρ c (ix2 r o)
      = ∑ j : Fin 2, ∑ k, x (ix2 r k) * share (soft (score x w r) e0) (soft (score x w r) e1) e0 e1 (own c j) * E (ix3 j k o) := by
  unfold part
  rw [x_whole, rw_whole, ix_whole, ew_whole, hx, hw, hI, hE]
  refine (part_read c x w _ _ _ _ r o e0 e1 ((col0_read I r).trans h0) ((col1_read I r).trans h1)).trans ?_
  rw [Fin.sum_univ_two]
  exact congr (congrArg HAdd.hAdd (Finset.sum_congr rfl fun k _ => congrArg _ (expert0_read E k o)))
    (Finset.sum_congr rfl fun k _ => congrArg _ (expert1_read E k o))

end Result

end Cert.Exchange

end
-- ==== Proof.Whole.lean ====
/-
# What the reference computes, read at an index

The reference's result at one token and one column, where the routing names experts within range: the weighted sum of the two
chosen experts' products. Its gathers, its wrap of negative indices and its softmax are read one by one.
-/
module

public import proofs.«01_k».proof.Proof.Gen.ReferenceIdeal.Run
public import proofs.«01_k».proof.Proof.Partial
public import Idealize.ShloMosaic.Lib.Tactic.CleanTypes

@[expose] public section

set_option maxRecDepth 16384

noncomputable section

namespace Cert.Exchange.Whole

open Cert.ReferenceIdeal Cert.ReferenceIdeal.Gen Cert.ReferenceIdeal.Value
open Idealize.ShloMosaic Idealize.ShloMosaic.TcCoe Idealize.SL.Sem

/-! ## The gathers -/

/-- The gather of one entry a token: where the pair of words at token `r` is `r` and `e`, entry `(r, e)`. -/
theorem pick_read {α : Type} (p : S256x8.Idx → α) (idx : IVec S256x2 32) (r : Fin 256) (e : Fin 8)
    (h0 : idx (ix2 r 0) = BitVec.ofNat 32 r.val) (h1 : idx (ix2 r 1) = BitVec.ofNat 32 e.val) :
    Host.gather gather_S256x8_S256x2_S256_n_01_n_n_01_1_11 p idx (ix1 r) = p (ix2 r e) := by
  have tr : ∀ r : Fin 256, min (BitVec.ofNat 32 r.val).toInt.toNat 255 = r.val := by decide +kernel
  have te : ∀ e : Fin 8, min (BitVec.ofNat 32 e.val).toInt.toNat 7 = e.val := by decide
  have s0 (h) : GatherDims.siIdx gather_S256x8_S256x2_S256_n_01_n_n_01_1_11 (ix1 r) ⟨0, h⟩ = ix2 r 0 := by
    funext b; apply Fin.ext
    match b with
    | ⟨0, _⟩ => rfl
    | ⟨1, _⟩ => rfl
  have s1 (h) : GatherDims.siIdx gather_S256x8_S256x2_S256_n_01_n_n_01_1_11 (ix1 r) ⟨1, h⟩ = ix2 r 1 := by
    funext b; apply Fin.ext
    match b with
    | ⟨0, _⟩ => rfl
    | ⟨1, _⟩ => rfl
  unfold Host.gather
  refine congrArg p (funext fun a => Fin.ext ?_)
  match a with
  | ⟨0, _⟩ =>
    exact (congrArg (fun q => min (idx q).toInt.toNat 255 + 0 + 0) (s0 (by decide))).trans
      ((congrArg (fun b : BitVec 32 => min b.toInt.toNat 255) h0).trans (tr r))
  | ⟨1, _⟩ =>
    exact (congrArg (fun q => min (idx q).toInt.toNat 7 + 0 + 0) (s1 (by decide))).trans
      ((congrArg (fun b : BitVec 32 => min b.toInt.toNat 7) h1).trans (te e))

/-- The gather of one matrix a token: where the word at token `r` is `e`, expert `e`'s matrix. -/
theorem matrix_read {α : Type} (E : S8x128x256.Idx → α) (idx : IVec S256x1 32) (r : Fin 256) (k : Fin 128) (o : Fin 256) (e : Fin 8)
    (h0 : idx (ix2 r 0) = BitVec.ofNat 32 e.val) :
    Host.gather gather_S8x128x256_S256x1_S256x128x256_12_0_n_n_0_1_1128256 E idx (ix3 r k o) = E (ix3 e k o) := by
  have te : ∀ e : Fin 8, min (BitVec.ofNat 32 e.val).toInt.toNat 7 = e.val := by decide
  have s0 (h) : GatherDims.siIdx gather_S8x128x256_S256x1_S256x128x256_12_0_n_n_0_1_1128256 (ix3 r k o) ⟨0, h⟩ = ix2 r 0 := by
    funext b; apply Fin.ext
    match b with
    | ⟨0, _⟩ => rfl
    | ⟨1, _⟩ => rfl
  unfold Host.gather
  refine congrArg E (funext fun a => Fin.ext ?_)
  match a with
  | ⟨0, _⟩ =>
    exact (congrArg (fun q => min (idx q).toInt.toNat 7 + 0 + 0) (s0 (by decide))).trans
      ((congrArg (fun b : BitVec 32 => min b.toInt.toNat 7) h0).trans (te e))
  | ⟨1, _⟩ => show 0 + 0 + k.val = k.val; omega
  | ⟨2, _⟩ => show 0 + 0 + o.val = o.val; omega

/-! ## The reference's steps, named -/

/-- The softmax of the scores. -/
def probs (x : FVec Ideal S256x128 .bf16) (w : FVec Ideal S128x8 .bf16) : FVec Ideal S256x8 .f32 :=
  have s : FVec Ideal S256x8 .f32 := Host.dotGeneral dot_S256x128_S128x8_S256x8_1_0_0_1_n_n none (extf .f32 x bitsLt_bf16_f32) (extf .f32 w bitsLt_bf16_f32)
  have t : FVec Ideal S256 .f32 := Host.reduce FloatOps.maximumf s (constant S_ .f32 0xFF800000#32) reducesTo_S256x8_S256_d1 h_S_
  have p : FVec Ideal S256x8 .f32 := Host.exp (subf s (broadcastInDim S256x8 ![0, 1] bcast_S256x1_S256x8_0_1 (broadcastInDim S256x1 ![0] bcast_S256_S256x1_0 t)))
  have z : FVec Ideal S256 .f32 := Host.reduceAdd p (constant S_ .f32 0x00000000#32) reducesTo_S256x8_S256_d1 h_S_
  Host.divf p (broadcastInDim S256x8 ![0, 1] bcast_S256x1_S256x8_0_1 (broadcastInDim S256x1 ![0] bcast_S256_S256x1_0 z))

/-- An index that may be negative, wrapped once by `n`. -/
def wrap (n : BitVec 32) (i : IVec S256 32) : IVec S256 32 :=
  select (cmpi .slt i (broadcastInDim S256 ![] bcast_S_S256 (constantI S_ 32 0#32))) (addi i (broadcastInDim S256 ![] bcast_S_S256 (constantI S_ 32 n))) i

/-- The two columns of the routing. -/
def col0 (I : IVec S256x2 32) : IVec S256 32 := shapeCast S256 (extractStridedSlice S256x1 ![0, 0] I slices_S256x2_S256x1_0_0) shapeCasts_S256x1_S256
def col1 (I : IVec S256x2 32) : IVec S256 32 := shapeCast S256 (extractStridedSlice S256x1 ![0, 1] I slices_S256x2_S256x1_0_1) shapeCasts_S256x1_S256

/-- The softmax at each token's expert. -/
def gateOf (p : FVec Ideal S256x8 .f32) (i : IVec S256 32) : FVec Ideal S256 .f32 :=
  Host.gather gather_S256x8_S256x2_S256_n_01_n_n_01_1_11 p
    (fn_main_v29 (F := Ideal) (broadcastInDim S256x1 ![0] bcast_S256_S256x1_0 (wrap 256#32 (iotaInDim S256 32 0)))
      (broadcastInDim S256x1 ![0] bcast_S256_S256x1_0 (wrap 8#32 i)))

/-- Each token through its expert's matrix. -/
def through (x : FVec Ideal S256x128 .bf16) (E : FVec Ideal S8x128x256 .bf16) (i : IVec S256 32) : FVec Ideal S256x256 .f32 :=
  Host.dotGeneral dot_S256x128_S256x128x256_S256x256_1_1_n_2_0_0 none (extf .f32 x bitsLt_bf16_f32)
    (Host.gather gather_S8x128x256_S256x1_S256x128x256_12_0_n_n_0_1_1128256 (extf .f32 E bitsLt_bf16_f32)
      (broadcastInDim S256x1 ![0] bcast_S256_S256x1_0 (wrap 8#32 i)))

/-- A column of weights over all columns. -/
def spread (g : FVec Ideal S256 .f32) : FVec Ideal S256x256 .f32 :=
  broadcastInDim S256x256 ![0, 1] bcast_S256x1_S256x256_0_1 (broadcastInDim S256x1 ![0] bcast_S256_S256x1_0 g)

/-- The reference's result. -/
def out (x : FVec Ideal S256x128 .bf16) (w : FVec Ideal S128x8 .bf16) (I : IVec S256x2 32) (E : FVec Ideal S8x128x256 .bf16) : FVec Ideal S256x256 .f32 :=
  have g0 : FVec Ideal S256 .f32 := gateOf (probs x w) (col0 I)
  have g1 : FVec Ideal S256 .f32 := gateOf (probs x w) (col1 I)
  addf (mulf (spread (Host.divf g0 (addf g0 g1))) (through x E (col0 I))) (mulf (spread (Host.divf g1 (addf g0 g1))) (through x E (col1 I)))

/-- The generated run's result is that of the named steps. -/
theorem res_eq (m : (ℓ : Loc nD τ sig) → Buf (Elt Ideal) ℓ) (c : Dev nD) :
    res_out0 (F := Ideal) m c = out (m ((c.tc : Thread nD τ).loc main_arg0)) (m ((c.tc : Thread nD τ).loc main_arg1))
      (m ((c.tc : Thread nD τ).loc main_arg2)) (m ((c.tc : Thread nD τ).loc main_arg3)) := rfl

/-! ## The steps at an index -/

theorem probs_read (x : FVec Ideal S256x128 .bf16) (w : FVec Ideal S128x8 .bf16) (r : Fin 256) (e : Fin 8) :
    probs x w (ix2 r e) = soft (score x w r) e := by
  pointwise [probs]
  rfl

theorem col0_at (I : IVec S256x2 32) (r : Fin 256) : col0 I (ix1 r) = I (ix2 r 0) := by pointwise [col0]
theorem col1_at (I : IVec S256x2 32) (r : Fin 256) : col1 I (ix1 r) = I (ix2 r 1) := by pointwise [col1]

/-- A word of a number below 256 is not negative, so the wrap leaves it. -/
theorem wrap_read (n : BitVec 32) (i : IVec S256 32) (r : Fin 256) (e : Fin 256) (h : i (ix1 r) = BitVec.ofNat 32 e.val) :
    wrap n i (ix1 r) = BitVec.ofNat 32 e.val := by
  have hn : ∀ e : Fin 256, ¬ IntOp.cmpi .slt (BitVec.ofNat 32 e.val) 0#32 = 1 := by decide +kernel
  pointwise [wrap]
  rw [h]
  unfold Scalar.select
  rw [if_neg (hn e)]

theorem iota_at (r : Fin 256) : iotaInDim S256 32 0 (ix1 r) = BitVec.ofNat 32 r.val := rfl

theorem gate_read (p : FVec Ideal S256x8 .f32) (i : IVec S256 32) (r : Fin 256) (e : Fin 8) (h : i (ix1 r) = BitVec.ofNat 32 e.val) :
    gateOf p i (ix1 r) = p (ix2 r e) := by
  have e8 : e.val < 256 := by omega
  refine pick_read p _ r e ?_ ?_
  · pointwise [fn_main_v29]
    exact wrap_read 256#32 _ r r (iota_at r)
  · pointwise [fn_main_v29]
    exact wrap_read 8#32 i r ⟨e.val, e8⟩ h

theorem through_read (x : FVec Ideal S256x128 .bf16) (E : FVec Ideal S8x128x256 .bf16) (i : IVec S256 32) (r o : Fin 256) (e : Fin 8)
    (h : i (ix1 r) = BitVec.ofNat 32 e.val) : through x E i (ix2 r o) = ∑ k, x (ix2 r k) * E (ix3 e k o) := by
  have e8 : e.val < 256 := by omega
  unfold through
  pointwise
  refine Finset.sum_congr rfl fun k _ => congrArg _ ?_
  refine (matrix_read _ _ r k o e ?_).trans rfl
  pointwise
  exact wrap_read 8#32 i r ⟨e.val, e8⟩ h

/-- The reference's result at token `r` and column `o`. -/
theorem out_at (x : FVec Ideal S256x128 .bf16) (w : FVec Ideal S128x8 .bf16) (I : IVec S256x2 32) (E : FVec Ideal S8x128x256 .bf16)
    (r o : Fin 256) (e0 e1 : Fin 8) (h0 : I (ix2 r 0) = BitVec.ofNat 32 e0.val) (h1 : I (ix2 r 1) = BitVec.ofNat 32 e1.val) :
    out x w I E (ix2 r o)
      = Ideal.div (soft (score x w r) e0) (soft (score x w r) e0 + soft (score x w r) e1) * (∑ k, x (ix2 r k) * E (ix3 e0 k o))
        + Ideal.div (soft (score x w r) e1) (soft (score x w r) e0 + soft (score x w r) e1) * ∑ k, x (ix2 r k) * E (ix3 e1 k o) := by
  have c0 := (col0_at I r).trans h0
  have c1 := (col1_at I r).trans h1
  rw [← probs_read, ← probs_read, ← gate_read (probs x w) (col0 I) r e0 c0, ← gate_read (probs x w) (col1 I) r e1 c1,
    ← through_read x E (col0 I) r o e0 c0, ← through_read x E (col1 I) r o e1 c1]
  unfold out
  pointwise [spread]

end Cert.Exchange.Whole

end
-- ==== Proof.Values.lean ====
/-
# The kernel's result is the reference's, a block a device

Where the precondition holds, the four devices' results are the blocks of the reference's.
-/
module

public import proofs.«01_k».proof.Proof.Routed
public import proofs.«01_k».proof.Proof.Partial
public import proofs.«01_k».proof.Proof.Whole
public import proofs.«01_k».proof.Proof.Frames

@[expose] public section

set_option maxRecDepth 16384

noncomputable section

namespace Cert.Exchange

open Idealize.ShloMosaic Idealize.ShloMosaic.TcCoe Idealize.SL.Sem

/-- The score of real operands is real. -/
theorem score_real (x : (⟨2, ![256, 128]⟩ : Shape).Idx → EReal) (w : (⟨2, ![128, 8]⟩ : Shape).Idx → EReal)
    (hx : ∀ i, ∃ q : ℝ, x i = q) (hw : ∀ i, ∃ q : ℝ, w i = q) (r : Fin 256) :
    ∃ s : Fin 8 → ℝ, score x w r = fun e => (s e : EReal) := by
  choose X hX using hx
  choose W hW using hw
  refine ⟨fun e => ∑ k : Fin 128, X (ix2 r k) * W (ix2 k e), funext fun e => ?_⟩
  unfold score
  rw [← sum_real]
  exact Finset.sum_congr rfl fun k _ => by rw [hX, hW, EReal.coe_mul]

/-- The experts, counted a device at a time. -/
theorem by_device (f : Fin 8 → EReal) : ∑ d : Dev Cert.KernelIdeal.nD, ∑ j : Fin 2, f (own d j) = ∑ e, f e := by
  have h : ∑ d : Dev Cert.KernelIdeal.nD, ∑ j : Fin 2, f (own d j)
      = ∑ j : Fin 2, f (own 0 j) + ∑ j : Fin 2, f (own 1 j) + ∑ j : Fin 2, f (own 2 j) + ∑ j : Fin 2, f (own 3 j) := Fin.sum_univ_four _
  rw [h]
  simp only [Fin.sum_univ_two, Fin.sum_univ_eight]
  show f 0 + f 1 + (f 2 + f 3) + (f 4 + f 5) + (f 6 + f 7) = _
  ac_rfl

section

variable (m : (ℓ : Loc Cert.KernelIdeal.nD Cert.KernelIdeal.τ Cert.KernelIdeal.sig) → Buf (Elt Ideal) ℓ) (ρ : Dev Cert.KernelIdeal.nD → PrngReg)
variable (x : FVec Ideal ⟨2, ![256, 128]⟩ .bf16) (w : FVec Ideal ⟨2, ![128, 8]⟩ .bf16) (I : IVec ⟨2, ![256, 2]⟩ 32)
  (E : FVec Ideal ⟨3, ![8, 128, 256]⟩ .bf16)

/-- Every device's result is its block of the reference's, where the operands are those of the reference. -/
theorem out_block (h0 : ∀ c : Dev Cert.KernelIdeal.nD, m ((c.tc : Thread Cert.KernelIdeal.nD Cert.KernelIdeal.τ).loc Cert.KernelIdeal.main_arg0) = x)
    (h1 : ∀ c : Dev Cert.KernelIdeal.nD, m ((c.tc : Thread Cert.KernelIdeal.nD Cert.KernelIdeal.τ).loc Cert.KernelIdeal.main_arg1) = w)
    (h2 : ∀ c : Dev Cert.KernelIdeal.nD, m ((c.tc : Thread Cert.KernelIdeal.nD Cert.KernelIdeal.τ).loc Cert.KernelIdeal.main_arg2) = I)
    (h3 : ∀ c : Dev Cert.KernelIdeal.nD, m ((c.tc : Thread Cert.KernelIdeal.nD Cert.KernelIdeal.τ).loc Cert.KernelIdeal.main_arg3)
      = Layout.block ⟨3, ![2, 128, 256]⟩ ⟨3, ![8, 128, 256]⟩ 0 4 c E)
    (hx : ∀ i, ∃ q : ℝ, x i = q) (hw : ∀ i, ∃ q : ℝ, w i = q) (hI : ∀ i, ∃ e : Fin 8, I i = BitVec.ofNat 32 e.val)
    (c : Dev Cert.KernelIdeal.nD) :
    outAt m ρ c = Layout.block ⟨2, ![64, 256]⟩ ⟨2, ![256, 256]⟩ 0 4 c (Whole.out x w I E) := by
  funext y
  obtain ⟨r, o, rfl⟩ : ∃ (r : Fin 64) (o : Fin 256), y = ix2 r o := ⟨y 0, y 1, by
    funext a; match a with
    | ⟨0, _⟩ => rfl
    | ⟨1, _⟩ => rfl⟩
  obtain ⟨e0, he0⟩ := hI (ix2 (rowAt c r) 0)
  obtain ⟨e1, he1⟩ := hI (ix2 (rowAt c r) 1)
  obtain ⟨s, hs⟩ := score_real x w hx hw (rowAt c r)
  obtain ⟨a, ha, ea⟩ := soft_pos s e0
  obtain ⟨b, hb, eb⟩ := soft_pos s e1
  have hblk (d : Dev Cert.KernelIdeal.nD) (j : Fin 2) (k : Fin 128) :
      (Layout.block ⟨3, ![2, 128, 256]⟩ ⟨3, ![8, 128, 256]⟩ 0 4 d E) (ix3 j k o) = E (ix3 (own d j) k o) := by
    rw [Layout.block_apply]
    refine congrArg E (funext fun a => Fin.ext ?_)
    match a with
    | ⟨0, _⟩ => show _ = 2 * d.val + j.val; rw [Layout.Tiles.idx_val]; simp; omega
    | ⟨1, _⟩ => rfl
    | ⟨2, _⟩ => rfl
  have hp (d : Dev Cert.KernelIdeal.nD) : part m ρ d (ix2 (rowAt c r) o)
      = ∑ j : Fin 2, ∑ k, x (ix2 (rowAt c r) k) * share (a : EReal) b e0 e1 (own d j) * E (ix3 (own d j) k o) := by
    rw [part_at m ρ d x w I _ (h0 d) (h1 d) (h2 d) (h3 d) (rowAt c r) o e0 e1 he0 he1, hs, ea, eb]
    exact Finset.sum_congr rfl fun j _ => Finset.sum_congr rfl fun k _ => congrArg _ (hblk d j k)
  have hR : (Layout.block ⟨2, ![64, 256]⟩ ⟨2, ![256, 256]⟩ 0 4 c (Whole.out x w I E)) (ix2 r o) = Whole.out x w I E (ix2 (rowAt c r) o) := by
    rw [Layout.block_apply]
    refine congrArg (Whole.out x w I E) (funext fun a => Fin.ext ?_)
    match a with
    | ⟨0, _⟩ => show _ = 64 * c.val + r.val; rw [Layout.Tiles.idx_val]; simp; omega
    | ⟨1, _⟩ => rfl
  rw [hR, Whole.out_at x w I E (rowAt c r) o e0 e1 he0 he1, hs, ea, eb, out_read,
    around (fun d => part m ρ d (ix2 (rowAt c r) o)) c, Finset.sum_congr rfl fun d _ => hp d,
    by_device (fun e => ∑ k, x (ix2 (rowAt c r) k) * share (a : EReal) b e0 e1 e * E (ix3 e k o))]
  exact mixture (fun k : Fin 128 => x (ix2 (rowAt c r) k)) (fun e k => E (ix3 e k o)) a b ha hb e0 e1

end

/-- Where the precondition holds, the kernel's results are the blocks of the reference's. -/
theorem same_values : Cert.algebraic_KernelIdeal_ReferenceIdeal_pre_routed_KernelIdeal (hKernelIdeal := Cert.KernelIdeal.Gen.facts)
    (hReferenceIdeal := Cert.ReferenceIdeal.Gen.facts) (hPre_routed_KernelIdeal := Cert.Pre_routed_KernelIdeal.Gen.facts) := by
  intro m ρ m' ρ' hpre hin
  have hp := hpre 0
  rw [(hin 0).1, (hin 0).2.1, (hin 0).2.2.1] at hp
  obtain ⟨hx, hw, hI⟩ := routed_parts _ _ _ _ hp
  refine ⟨Cert.ReferenceIdeal.Value.res_out0 m' 0, ?_, ?_⟩
  · refine (θ_run Cert.KernelIdeal.defs _ _).mono (fun _ h c => ⟨((h.1 c (4 : Fin 5)).trans (final_out m ρ c)).trans ?_,
      (h.1 c (0 : Fin 5)).trans (final_x m ρ c), (h.1 c (1 : Fin 5)).trans (final_rw m ρ c),
      (h.1 c (2 : Fin 5)).trans (final_ix m ρ c), (h.1 c (3 : Fin 5)).trans (final_ew m ρ c)⟩) (run_main m ρ)
    rw [Whole.res_eq]
    exact out_block m ρ _ _ _ _ (fun d => (hin d).1) (fun d => (hin d).2.1) (fun d => (hin d).2.2.1) (fun d => (hin d).2.2.2) hx hw hI c
  · exact (θ_run Cert.ReferenceIdeal.defs _ _).mono (fun _ h => h 0) (Cert.ReferenceIdeal.Value.run m' ρ')

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

/-- Every claim: the frames of `Frames.lean`, and the values of `Values.lean`. -/
theorem claim : Cert.Claim := ⟨Cert.Kernel.Gen.facts, Cert.KernelIdeal.Gen.facts, Cert.ReferenceIdeal.Gen.facts, Cert.Pre_routed_KernelIdeal.Gen.facts, Cert.Pre_routed_ReferenceIdeal.Gen.facts,
  Cert.Exchange.frame_kernel, Cert.Exchange.frame_ideal, Cert.Exchange.frame_ideal_routed, Cert.Exchange.frame_ref, Cert.Exchange.frame_ref_routed,
  trivial, Cert.Exchange.same_values⟩

end Cert.Proof

end
